-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_inputs_ok [hPre_inputs_ok : Cert.Pre_inputs_ok.Facts] (m : (ℓ : Loc Cert.KernelIdeal.nD Cert.KernelIdeal.τ Cert.KernelIdeal.sig) → Buf (Elt Ideal) ℓ) : Prop :=
  ∀ c : Dev Cert.KernelIdeal.nD,
    (Cert.Pre_inputs_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))).1 = (fun _ => 1#1)
    ∧ (Cert.Pre_inputs_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))).2.1 = (fun _ => 1#1)
    ∧ (Cert.Pre_inputs_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))).2.2.1 = (fun _ => 1#1)
    ∧ (Cert.Pre_inputs_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))).2.2.2.1 = (fun _ => 1#1)
    ∧ (Cert.Pre_inputs_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))).2.2.2.2.1 = (fun _ => 1#1)
    ∧ (Cert.Pre_inputs_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))).2.2.2.2.2.1 = (fun _ => 1#1)
    ∧ (Cert.Pre_inputs_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))).2.2.2.2.2.2.1 = (fun _ => 1#1)
    ∧ (Cert.Pre_inputs_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))).2.2.2.2.2.2.2.1 = (fun _ => 1#1)
    ∧ (Cert.Pre_inputs_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))).2.2.2.2.2.2.2.2.1 = (fun _ => 1#1)
    ∧ (Cert.Pre_inputs_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))).2.2.2.2.2.2.2.2.2.1 = (fun _ => 1#1)
    ∧ (Cert.Pre_inputs_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))).2.2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_inputs_ok [hPre_inputs_ok : Cert.Pre_inputs_ok.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_inputs_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))).1 = (fun _ => 1#1)
    ∧ (Cert.Pre_inputs_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))).2.1 = (fun _ => 1#1)
    ∧ (Cert.Pre_inputs_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))).2.2.1 = (fun _ => 1#1)
    ∧ (Cert.Pre_inputs_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))).2.2.2.1 = (fun _ => 1#1)
    ∧ (Cert.Pre_inputs_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))).2.2.2.2.1 = (fun _ => 1#1)
    ∧ (Cert.Pre_inputs_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))).2.2.2.2.2.1 = (fun _ => 1#1)
    ∧ (Cert.Pre_inputs_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))).2.2.2.2.2.2.1 = (fun _ => 1#1)
    ∧ (Cert.Pre_inputs_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))).2.2.2.2.2.2.2.1 = (fun _ => 1#1)
    ∧ (Cert.Pre_inputs_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))).2.2.2.2.2.2.2.2.1 = (fun _ => 1#1)
    ∧ (Cert.Pre_inputs_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))).2.2.2.2.2.2.2.2.2.1 = (fun _ => 1#1)
    ∧ (Cert.Pre_inputs_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))).2.2.2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ r.2.sem = fun _ => 0)

def quiescent_KernelIdeal_pre_inputs_ok [hKernelIdeal : Cert.KernelIdeal.Facts] [hPre_inputs_ok : Cert.Pre_inputs_ok.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_inputs_ok m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))
      ∧ r.2.sem = fun _ => 0)

def quiescent_ReferenceIdeal_pre_inputs_ok [hReferenceIdeal : Cert.ReferenceIdeal.Facts] [hPre_inputs_ok : Cert.Pre_inputs_ok.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_inputs_ok m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))
      ∧ r.2.sem = fun _ => 0)

def preserves_Kernel_KernelIdeal : Prop :=
  True

def algebraic_KernelIdeal_ReferenceIdeal_pre_inputs_ok [hKernelIdeal : Cert.KernelIdeal.Facts] [hReferenceIdeal : Cert.ReferenceIdeal.Facts] [hPre_inputs_ok : Cert.Pre_inputs_ok.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_inputs_ok m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_inputs_ok : Cert.Pre_inputs_ok.Facts),
    quiescent_Kernel (hKernel := hKernel)
    ∧ quiescent_KernelIdeal (hKernelIdeal := hKernelIdeal)
    ∧ quiescent_KernelIdeal_pre_inputs_ok (hKernelIdeal := hKernelIdeal) (hPre_inputs_ok := hPre_inputs_ok)
    ∧ quiescent_ReferenceIdeal (hReferenceIdeal := hReferenceIdeal)
    ∧ quiescent_ReferenceIdeal_pre_inputs_ok (hReferenceIdeal := hReferenceIdeal) (hPre_inputs_ok := hPre_inputs_ok)
    ∧ preserves_Kernel_KernelIdeal
    ∧ algebraic_KernelIdeal_ReferenceIdeal_pre_inputs_ok (hKernelIdeal := hKernelIdeal) (hReferenceIdeal := hReferenceIdeal) (hPre_inputs_ok := hPre_inputs_ok)
-- ==== Pre_inputs_ok.lean ====
abbrev S1024 : Shape := ⟨1, ![1024]⟩
abbrev S1024x50 : Shape := ⟨2, ![1024, 50]⟩
abbrev S1024x50x256 : Shape := ⟨3, ![1024, 50, 256]⟩
abbrev S7x128 : Shape := ⟨2, ![7, 128]⟩
abbrev S1000x128 : Shape := ⟨2, ![1000, 128]⟩
abbrev S128x2 : Shape := ⟨2, ![128, 2]⟩
abbrev S_ : Shape := ⟨0, ![]⟩
abbrev S128 : Shape := ⟨1, ![128]⟩
abbrev S128x256 : Shape := ⟨2, ![128, 256]⟩

class Facts : Prop where
  bcast_S_S1024x50 : S_.BroadcastsInDim S1024x50 (![] : Fin 0 → Fin S1024x50.rank)
  bcast_S_S1024x50x256 : S_.BroadcastsInDim S1024x50x256 (![] : Fin 0 → Fin S1024x50x256.rank)
  reducesTo_S128x2_S_d0_1 : S128x2.ReducesTo [0, 1] S_
  h_S_ : 0 < S_.numel
  reducesTo_S128x256_S_d0_1 : S128x256.ReducesTo [0, 1] S_

variable [Facts]

def fn_part2 {F : FTy → Type} [FloatOps F] (main_arg17 : FVec F S128x256 .f32) (main_v4 : IVec S1024x50 1) (main_v9 : IVec S1024x50 1) (main_v14 : IVec S1024x50 1) (main_v19 : IVec S1024x50 1) (main_v22 : IVec S1024x50x256 1) (main_v25 : IVec S1024x50x256 1) (main_v27 : IVec S_ 1) (main_v29 : IVec S_ 1) (main_v32 : IVec S_ 1) (main_v33 : FVec F S128x256 .f32) : IVec S1024x50 1 × IVec S1024x50 1 × IVec S1024x50 1 × IVec S1024x50 1 × IVec S1024x50x256 1 × IVec S1024x50x256 1 × IVec S_ 1 × IVec S_ 1 × IVec S_ 1 × IVec S_ 1 × IVec S_ 1 :=
  let main_cst_12 : FVec F S_ .f32 := constant S_ .f32 0x00000000#32
  let main_v34 : FVec F S_ .f32 := (fun x v => Host.reduceAdd x v reducesTo_S128x256_S_d0_1 h_S_) main_v33 main_cst_12
  let main_cst_13 : FVec F S_ .f32 := constant S_ .f32 0x00000000#32
  let main_v35 : IVec S_ 1 := cmpf .ogt main_v34 main_cst_13
  let main_v36 : FVec F S128x256 .f32 := mulf main_arg17 main_arg17
  let main_cst_14 : FVec F S_ .f32 := constant S_ .f32 0x00000000#32
  let main_v37 : FVec F S_ .f32 := (fun x v => Host.reduceAdd x v reducesTo_S128x256_S_d0_1 h_S_) main_v36 main_cst_14
  let main_cst_15 : FVec F S_ .f32 := constant S_ .f32 0x00000000#32
  let main_v38 : IVec S_ 1 := cmpf .ogt main_v37 main_cst_15
  (main_v4, main_v9, main_v14, main_v19, main_v22, main_v25, main_v27, main_v29, main_v32, main_v35, main_v38)

def fn_part1 {F : FTy → Type} [FloatOps F] (main_arg6 : IVec S1024x50 32) (main_arg7 : FVec F S1024x50x256 .f32) (main_arg8 : FVec F S1024x50x256 .f32) (main_arg11 : FVec F S128x2 .f32) (main_arg14 : FVec F S128x256 .f32) (main_arg15 : FVec F S_ .f32) (main_arg17 : FVec F S128x256 .f32) (main_arg18 : FVec F S_ .f32) (main_v4 : IVec S1024x50 1) (main_v9 : IVec S1024x50 1) (main_v14 : IVec S1024x50 1) (main_v16 : IVec S1024x50 1) : IVec S1024x50 1 × IVec S1024x50 1 × IVec S1024x50 1 × IVec S1024x50 1 × IVec S1024x50x256 1 × IVec S1024x50x256 1 × IVec S_ 1 × IVec S_ 1 × IVec S_ 1 × IVec S_ 1 × IVec S_ 1 :=
  let main_c_6 : IVec S_ 32 := constantI S_ 32 50#32
  let main_v17 : IVec S1024x50 32 := broadcastInDim S1024x50 ![] bcast_S_S1024x50 main_c_6
  let main_v18 : IVec S1024x50 1 := cmpi .slt main_arg6 main_v17
  let main_v19 : IVec S1024x50 1 := andi main_v16 main_v18
  let main_v20 : FVec F S1024x50x256 .f32 := Host.absf main_arg7
  let main_cst : FVec F S_ .f32 := constant S_ .f32 0x7F800000#32
  let main_v21 : FVec F S1024x50x256 .f32 := broadcastInDim S1024x50x256 ![] bcast_S_S1024x50x256 main_cst
  let main_v22 : IVec S1024x50x256 1 := cmpf .olt main_v20 main_v21
  let main_v23 : FVec F S1024x50x256 .f32 := Host.absf main_arg8
  let main_cst_7 : FVec F S_ .f32 := constant S_ .f32 0x7F800000#32
  let main_v24 : FVec F S1024x50x256 .f32 := broadcastInDim S1024x50x256 ![] bcast_S_S1024x50x256 main_cst_7
  let main_v25 : IVec S1024x50x256 1 := cmpf .olt main_v23 main_v24
  let main_v26 : FVec F S_ .f32 := Host.absf main_arg15
  let main_cst_8 : FVec F S_ .f32 := constant S_ .f32 0x7F800000#32
  let main_v27 : IVec S_ 1 := cmpf .olt main_v26 main_cst_8
  let main_v28 : FVec F S_ .f32 := Host.absf main_arg18
  let main_cst_9 : FVec F S_ .f32 := constant S_ .f32 0x7F800000#32
  let main_v29 : IVec S_ 1 := cmpf .olt main_v28 main_cst_9
  let main_v30 : FVec F S128x2 .f32 := mulf main_arg11 main_arg11
  let main_cst_10 : FVec F S_ .f32 := constant S_ .f32 0x00000000#32
  let main_v31 : FVec F S_ .f32 := (fun x v => Host.reduceAdd x v reducesTo_S128x2_S_d0_1 h_S_) main_v30 main_cst_10
  let main_cst_11 : FVec F S_ .f32 := constant S_ .f32 0x00000000#32
  let main_v32 : IVec S_ 1 := cmpf .ogt main_v31 main_cst_11
  let main_v33 : FVec F S128x256 .f32 := mulf main_arg14 main_arg14
  fn_part2 (F := F) main_arg17 main_v4 main_v9 main_v14 main_v19 main_v22 main_v25 main_v27 main_v29 main_v32 main_v33

def fn {F : FTy → Type} [FloatOps F] (main_arg0 : IVec S1024 32) (main_arg1 : IVec S1024x50 32) (main_arg2 : IVec S1024x50 32) (main_arg3 : FVec F S1024x50 .f32) (main_arg4 : FVec F S1024x50 .f32) (main_arg5 : IVec S1024x50 32) (main_arg6 : IVec S1024x50 32) (main_arg7 : FVec F S1024x50x256 .f32) (main_arg8 : FVec F S1024x50x256 .f32) (main_arg9 : FVec F S7x128 .f32) (main_arg10 : FVec F S1000x128 .f32) (main_arg11 : FVec F S128x2 .f32) (main_arg12 : FVec F S_ .f32) (main_arg13 : FVec F S128 .f32) (main_arg14 : FVec F S128x256 .f32) (main_arg15 : FVec F S_ .f32) (main_arg16 : FVec F S128 .f32) (main_arg17 : FVec F S128x256 .f32) (main_arg18 : FVec F S_ .f32) (main_arg19 : FVec F S128 .f32) : IVec S1024x50 1 × IVec S1024x50 1 × IVec S1024x50 1 × IVec S1024x50 1 × IVec S1024x50x256 1 × IVec S1024x50x256 1 × IVec S_ 1 × IVec S_ 1 × IVec S_ 1 × IVec S_ 1 × IVec S_ 1 :=
  let main_c : IVec S_ 32 := constantI S_ 32 0#32
  let main_v0 : IVec S1024x50 32 := broadcastInDim S1024x50 ![] bcast_S_S1024x50 main_c
  let main_v1 : IVec S1024x50 1 := cmpi .sge main_arg1 main_v0
  let main_c_0 : IVec S_ 32 := constantI S_ 32 7#32
  let main_v2 : IVec S1024x50 32 := broadcastInDim S1024x50 ![] bcast_S_S1024x50 main_c_0
  let main_v3 : IVec S1024x50 1 := cmpi .slt main_arg1 main_v2
  let main_v4 : IVec S1024x50 1 := andi main_v1 main_v3
  let main_c_1 : IVec S_ 32 := constantI S_ 32 0#32
  let main_v5 : IVec S1024x50 32 := broadcastInDim S1024x50 ![] bcast_S_S1024x50 main_c_1
  let main_v6 : IVec S1024x50 1 := cmpi .sge main_arg2 main_v5
  let main_c_2 : IVec S_ 32 := constantI S_ 32 1000#32
  let main_v7 : IVec S1024x50 32 := broadcastInDim S1024x50 ![] bcast_S_S1024x50 main_c_2
  let main_v8 : IVec S1024x50 1 := cmpi .slt main_arg2 main_v7
  let main_v9 : IVec S1024x50 1 := andi main_v6 main_v8
  let main_c_3 : IVec S_ 32 := constantI S_ 32 0#32
  let main_v10 : IVec S1024x50 32 := broadcastInDim S1024x50 ![] bcast_S_S1024x50 main_c_3
  let main_v11 : IVec S1024x50 1 := cmpi .sge main_arg5 main_v10
  let main_c_4 : IVec S_ 32 := constantI S_ 32 50#32
  let main_v12 : IVec S1024x50 32 := broadcastInDim S1024x50 ![] bcast_S_S1024x50 main_c_4
  let main_v13 : IVec S1024x50 1 := cmpi .slt main_arg5 main_v12
  let main_v14 : IVec S1024x50 1 := andi main_v11 main_v13
  let main_c_5 : IVec S_ 32 := constantI S_ 32 0#32
  let main_v15 : IVec S1024x50 32 := broadcastInDim S1024x50 ![] bcast_S_S1024x50 main_c_5
  let main_v16 : IVec S1024x50 1 := cmpi .sge main_arg6 main_v15
  fn_part1 (F := F) main_arg6 main_arg7 main_arg8 main_arg11 main_arg14 main_arg15 main_arg17 main_arg18 main_v4 main_v9 main_v14 main_v16
-- ==== Kernel.lean ====
abbrev S1024 : Shape := ⟨1, ![1024]⟩
abbrev S1024x50 : Shape := ⟨2, ![1024, 50]⟩
abbrev S1024x50x256 : Shape := ⟨3, ![1024, 50, 256]⟩
abbrev S7x128 : Shape := ⟨2, ![7, 128]⟩
abbrev S1000x128 : Shape := ⟨2, ![1000, 128]⟩
abbrev S128x2 : Shape := ⟨2, ![128, 2]⟩
abbrev S_ : Shape := ⟨0, ![]⟩
abbrev S128 : Shape := ⟨1, ![128]⟩
abbrev S128x256 : Shape := ⟨2, ![128, 256]⟩
abbrev S1x1024x50 : Shape := ⟨3, ![1, 1024, 50]⟩
abbrev S4x1024x50 : Shape := ⟨3, ![4, 1024, 50]⟩
abbrev S2x1024x50 : Shape := ⟨3, ![2, 1024, 50]⟩
abbrev S4x50x1024 : Shape := ⟨3, ![4, 50, 1024]⟩
abbrev S4x50x64x16 : Shape := ⟨4, ![4, 50, 64, 16]⟩
abbrev S64x4x50x16 : Shape := ⟨4, ![64, 4, 50, 16]⟩
abbrev S64x4x800 : Shape := ⟨3, ![64, 4, 800]⟩
abbrev S2x50x1024 : Shape := ⟨3, ![2, 50, 1024]⟩
abbrev S2x50x64x16 : Shape := ⟨4, ![2, 50, 64, 16]⟩
abbrev S64x2x50x16 : Shape := ⟨4, ![64, 2, 50, 16]⟩
abbrev S64x2x800 : Shape := ⟨3, ![64, 2, 800]⟩
abbrev S50x1024x256 : Shape := ⟨3, ![50, 1024, 256]⟩
abbrev S2x128 : Shape := ⟨2, ![2, 128]⟩
abbrev S1x1 : Shape := ⟨2, ![1, 1]⟩
abbrev S1x128 : Shape := ⟨2, ![1, 128]⟩
abbrev S50x1024x512 : Shape := ⟨3, ![50, 1024, 512]⟩
abbrev S1x4x800 : Shape := ⟨3, ![1, 4, 800]⟩
abbrev S1x2x800 : Shape := ⟨3, ![1, 2, 800]⟩
abbrev S50x16x256 : Shape := ⟨3, ![50, 16, 256]⟩
abbrev S50x16x512 : Shape := ⟨3, ![50, 16, 512]⟩
abbrev S4x800 : Shape := ⟨2, ![4, 800]⟩
abbrev S1x800 : Shape := ⟨2, ![1, 800]⟩
abbrev S2x800 : Shape := ⟨2, ![2, 800]⟩
abbrev S7x800 : Shape := ⟨2, ![7, 800]⟩
abbrev S800x128 : Shape := ⟨2, ![800, 128]⟩
abbrev S50x16x128 : Shape := ⟨3, ![50, 16, 128]⟩
abbrev S1000x800 : Shape := ⟨2, ![1000, 800]⟩
abbrev S1x2x128 : Shape := ⟨3, ![1, 2, 128]⟩
abbrev S1 : Shape := ⟨1, ![1]⟩
abbrev S1x1x1 : Shape := ⟨3, ![1, 1, 1]⟩
abbrev S3x128 : Shape := ⟨2, ![3, 128]⟩
abbrev S3x800 : Shape := ⟨2, ![3, 800]⟩
abbrev S1x128x256 : Shape := ⟨3, ![1, 128, 256]⟩
abbrev S800x256 : Shape := ⟨2, ![800, 256]⟩
abbrev S800x800 : Shape := ⟨2, ![800, 800]⟩
abbrev S801x800 : Shape := ⟨2, ![801, 800]⟩
abbrev S801x128 : Shape := ⟨2, ![801, 128]⟩
abbrev S1024x50x512 : Shape := ⟨3, ![1024, 50, 512]⟩

abbrev nBuf : Space → Nat
  | .hbm => 47
  | .vmem => 21
  | .smem => 0
  | _ => 0

abbrev bufTy : (tb : Table) → Fin (tcTables nBuf tb) → BufTy
  | .hbm, ⟨0, _⟩ => ⟨S1024, .i32⟩
  | .hbm, ⟨1, _⟩ => ⟨S1024x50, .i32⟩
  | .hbm, ⟨2, _⟩ => ⟨S1024x50, .i32⟩
  | .hbm, ⟨3, _⟩ => ⟨S1024x50, .f32⟩
  | .hbm, ⟨4, _⟩ => ⟨S1024x50, .f32⟩
  | .hbm, ⟨5, _⟩ => ⟨S1024x50, .i32⟩
  | .hbm, ⟨6, _⟩ => ⟨S1024x50, .i32⟩
  | .hbm, ⟨7, _⟩ => ⟨S1024x50x256, .f32⟩
  | .hbm, ⟨8, _⟩ => ⟨S1024x50x256, .f32⟩
  | .hbm, ⟨9, _⟩ => ⟨S7x128, .f32⟩
  | .hbm, ⟨10, _⟩ => ⟨S1000x128, .f32⟩
  | .hbm, ⟨11, _⟩ => ⟨S128x2, .f32⟩
  | .hbm, ⟨12, _⟩ => ⟨S_, .f32⟩
  | .hbm, ⟨13, _⟩ => ⟨S128, .f32⟩
  | .hbm, ⟨14, _⟩ => ⟨S128x256, .f32⟩
  | .hbm, ⟨15, _⟩ => ⟨S_, .f32⟩
  | .hbm, ⟨16, _⟩ => ⟨S128, .f32⟩
  | .hbm, ⟨17, _⟩ => ⟨S128x256, .f32⟩
  | .hbm, ⟨18, _⟩ => ⟨S_, .f32⟩
  | .hbm, ⟨19, _⟩ => ⟨S128, .f32⟩
  | .hbm, ⟨20, _⟩ => ⟨S1x1024x50, .i32⟩
  | .hbm, ⟨21, _⟩ => ⟨S1x1024x50, .i32⟩
  | .hbm, ⟨22, _⟩ => ⟨S1x1024x50, .i32⟩
  | .hbm, ⟨23, _⟩ => ⟨S1x1024x50, .i32⟩
  | .hbm, ⟨24, _⟩ => ⟨S4x1024x50, .i32⟩
  | .hbm, ⟨25, _⟩ => ⟨S1x1024x50, .f32⟩
  | .hbm, ⟨26, _⟩ => ⟨S1x1024x50, .f32⟩
  | .hbm, ⟨27, _⟩ => ⟨S2x1024x50, .f32⟩
  | .hbm, ⟨28, _⟩ => ⟨S4x50x1024, .i32⟩
  | .hbm, ⟨29, _⟩ => ⟨S4x50x64x16, .i32⟩
  | .hbm, ⟨30, _⟩ => ⟨S64x4x50x16, .i32⟩
  | .hbm, ⟨31, _⟩ => ⟨S64x4x800, .i32⟩
  | .hbm, ⟨32, _⟩ => ⟨S2x50x1024, .f32⟩
  | .hbm, ⟨33, _⟩ => ⟨S2x50x64x16, .f32⟩
  | .hbm, ⟨34, _⟩ => ⟨S64x2x50x16, .f32⟩
  | .hbm, ⟨35, _⟩ => ⟨S64x2x800, .f32⟩
  | .hbm, ⟨36, _⟩ => ⟨S50x1024x256, .f32⟩
  | .hbm, ⟨37, _⟩ => ⟨S50x1024x256, .f32⟩
  | .hbm, ⟨38, _⟩ => ⟨S2x128, .f32⟩
  | .hbm, ⟨39, _⟩ => ⟨S1x1, .f32⟩
  | .hbm, ⟨40, _⟩ => ⟨S1x128, .f32⟩
  | .hbm, ⟨41, _⟩ => ⟨S1x1, .f32⟩
  | .hbm, ⟨42, _⟩ => ⟨S1x128, .f32⟩
  | .hbm, ⟨43, _⟩ => ⟨S1x1, .f32⟩
  | .hbm, ⟨44, _⟩ => ⟨S1x128, .f32⟩
  | .hbm, ⟨45, _⟩ => ⟨S50x1024x512, .f32⟩
  | .hbm, ⟨46, _⟩ => ⟨S1024x50x512, .f32⟩
  | .local _ .vmem, ⟨0, _⟩ => ⟨S1x4x800, .i32⟩
  | .local _ .vmem, ⟨1, _⟩ => ⟨S1x4x800, .i32⟩
  | .local _ .vmem, ⟨2, _⟩ => ⟨S1x2x800, .f32⟩
  | .local _ .vmem, ⟨3, _⟩ => ⟨S1x2x800, .f32⟩
  | .local _ .vmem, ⟨4, _⟩ => ⟨S50x16x256, .f32⟩
  | .local _ .vmem, ⟨5, _⟩ => ⟨S50x16x256, .f32⟩
  | .local _ .vmem, ⟨6, _⟩ => ⟨S50x16x256, .f32⟩
  | .local _ .vmem, ⟨7, _⟩ => ⟨S50x16x256, .f32⟩
  | .local _ .vmem, ⟨8, _⟩ => ⟨S7x128, .f32⟩
  | .local _ .vmem, ⟨9, _⟩ => ⟨S1000x128, .f32⟩
  | .local _ .vmem, ⟨10, _⟩ => ⟨S2x128, .f32⟩
  | .local _ .vmem, ⟨11, _⟩ => ⟨S1x1, .f32⟩
  | .local _ .vmem, ⟨12, _⟩ => ⟨S1x128, .f32⟩
  | .local _ .vmem, ⟨13, _⟩ => ⟨S128x256, .f32⟩
  | .local _ .vmem, ⟨14, _⟩ => ⟨S1x1, .f32⟩
  | .local _ .vmem, ⟨15, _⟩ => ⟨S1x128, .f32⟩
  | .local _ .vmem, ⟨16, _⟩ => ⟨S128x256, .f32⟩
  | .local _ .vmem, ⟨17, _⟩ => ⟨S1x1, .f32⟩
  | .local _ .vmem, ⟨18, _⟩ => ⟨S1x128, .f32⟩
  | .local _ .vmem, ⟨19, _⟩ => ⟨S50x16x512, .f32⟩
  | .local _ .vmem, ⟨20, _⟩ => ⟨S50x16x512, .f32⟩
  | _, _ => ⟨S1024, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg15_0 : Ref sig .tc := ⟨.vmem, 19, rfl⟩
abbrev cc0_stg15_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem15_0 : DmaSem sig := 19
abbrev cc0_sem15_1 : DmaSem sig := 20

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x4x800 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2x800 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S50x16x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S50x16x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S7x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1000x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S50x16x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== ReferenceIdeal.lean ====
abbrev S1024 : Shape := ⟨1, ![1024]⟩
abbrev S1024x50 : Shape := ⟨2, ![1024, 50]⟩
abbrev S1024x50x256 : Shape := ⟨3, ![1024, 50, 256]⟩
abbrev S7x128 : Shape := ⟨2, ![7, 128]⟩
abbrev S1000x128 : Shape := ⟨2, ![1000, 128]⟩
abbrev S128x2 : Shape := ⟨2, ![128, 2]⟩
abbrev S_ : Shape := ⟨0, ![]⟩
abbrev S128 : Shape := ⟨1, ![128]⟩
abbrev S128x256 : Shape := ⟨2, ![128, 256]⟩
abbrev S1024x50x1 : Shape := ⟨3, ![1024, 50, 1]⟩
abbrev S1 : Shape := ⟨1, ![1]⟩
abbrev S1x1x1 : Shape := ⟨3, ![1, 1, 1]⟩
abbrev S1024x50x128 : Shape := ⟨3, ![1024, 50, 128]⟩
abbrev S1024x50x2 : Shape := ⟨3, ![1024, 50, 2]⟩
abbrev S2x128 : Shape := ⟨2, ![2, 128]⟩
abbrev S1x1x128 : Shape := ⟨3, ![1, 1, 128]⟩
abbrev S256x128 : Shape := ⟨2, ![256, 128]⟩
abbrev S1x1x7 : Shape := ⟨3, ![1, 1, 7]⟩
abbrev S1024x50x7 : Shape := ⟨3, ![1024, 50, 7]⟩
abbrev S1024x50x512 : Shape := ⟨3, ![1024, 50, 512]⟩

abbrev nBuf : Space → Nat
  | .hbm => 188
  | .vmem => 0
  | .smem => 0
  | _ => 0

abbrev hbmTy0_0 (i : Nat) : BufTy := match i % 128 with
  | 0 => ⟨S1024, .i32⟩
  | 1 => ⟨S1024x50, .i32⟩
  | 2 => ⟨S1024x50, .i32⟩
  | 3 => ⟨S1024x50, .f32⟩
  | 4 => ⟨S1024x50, .f32⟩
  | 5 => ⟨S1024x50, .i32⟩
  | 6 => ⟨S1024x50, .i32⟩
  | 7 => ⟨S1024x50x256, .f32⟩
  | 8 => ⟨S1024x50x256, .f32⟩
  | 9 => ⟨S7x128, .f32⟩
  | 10 => ⟨S1000x128, .f32⟩
  | 11 => ⟨S128x2, .f32⟩
  | 12 => ⟨S_, .f32⟩
  | 13 => ⟨S128, .f32⟩
  | 14 => ⟨S128x256, .f32⟩
  | 15 => ⟨S_, .f32⟩
  | 16 => ⟨S128, .f32⟩
  | 17 => ⟨S128x256, .f32⟩
  | 18 => ⟨S_, .f32⟩
  | 19 => ⟨S128, .f32⟩
  | 20 => ⟨S_, .i32⟩
  | 21 => ⟨S1024x50, .i32⟩
  | 22 => ⟨S1024x50, .i1⟩
  | 23 => ⟨S_, .i32⟩
  | 24 => ⟨S1024x50, .i32⟩
  | 25 => ⟨S1024x50, .i32⟩
  | 26 => ⟨S1024x50, .i32⟩
  | 27 => ⟨S1024x50x1, .i32⟩
  | 28 => ⟨S1, .i32⟩
  | 29 => ⟨S_, .i32⟩
  | 30 => ⟨S1024x50x1, .i32⟩
  | 31 => ⟨S1024x50x1, .i1⟩
  | 32 => ⟨S1x1x1, .i32⟩
  | 33 => ⟨S1024x50x1, .i32⟩
  | 34 => ⟨S1024x50x1, .i1⟩
  | 35 => ⟨S1024x50x1, .i1⟩
  | 36 => ⟨S_, .i1⟩
  | 37 => ⟨S1024x50, .i1⟩
  | 38 => ⟨S1024x50x128, .f32⟩
  | 39 => ⟨S1024x50x128, .i1⟩
  | 40 => ⟨S_, .f32⟩
  | 41 => ⟨S1024x50x128, .f32⟩
  | 42 => ⟨S1024x50x128, .f32⟩
  | 43 => ⟨S_, .i32⟩
  | 44 => ⟨S1024x50, .i32⟩
  | 45 => ⟨S1024x50, .i1⟩
  | 46 => ⟨S_, .i32⟩
  | 47 => ⟨S1024x50, .i32⟩
  | 48 => ⟨S1024x50, .i32⟩
  | 49 => ⟨S1024x50, .i32⟩
  | 50 => ⟨S1024x50x1, .i32⟩
  | 51 => ⟨S1, .i32⟩
  | 52 => ⟨S_, .i32⟩
  | 53 => ⟨S1024x50x1, .i32⟩
  | 54 => ⟨S1024x50x1, .i1⟩
  | 55 => ⟨S1x1x1, .i32⟩
  | 56 => ⟨S1024x50x1, .i32⟩
  | 57 => ⟨S1024x50x1, .i1⟩
  | 58 => ⟨S1024x50x1, .i1⟩
  | 59 => ⟨S_, .i1⟩
  | 60 => ⟨S1024x50, .i1⟩
  | 61 => ⟨S1024x50x128, .f32⟩
  | 62 => ⟨S1024x50x128, .i1⟩
  | 63 => ⟨S_, .f32⟩
  | 64 => ⟨S1024x50x128, .f32⟩
  | 65 => ⟨S1024x50x128, .f32⟩
  | 66 => ⟨S1024x50x1, .f32⟩
  | 67 => ⟨S1024x50x1, .f32⟩
  | 68 => ⟨S1024x50x2, .f32⟩
  | 69 => ⟨S128x2, .f32⟩
  | 70 => ⟨S128x2, .f32⟩
  | 71 => ⟨S128x2, .f32⟩
  | 72 => ⟨S_, .f32⟩
  | 73 => ⟨S_, .f32⟩
  | 74 => ⟨S_, .f32⟩
  | 75 => ⟨S128x2, .f32⟩
  | 76 => ⟨S128x2, .f32⟩
  | 77 => ⟨S2x128, .f32⟩
  | 78 => ⟨S1024x50x128, .f32⟩
  | 79 => ⟨S1x1x128, .f32⟩
  | 80 => ⟨S1024x50x128, .f32⟩
  | 81 => ⟨S1024x50x128, .f32⟩
  | 82 => ⟨S128x256, .f32⟩
  | 83 => ⟨S128x256, .f32⟩
  | 84 => ⟨S128x256, .f32⟩
  | 85 => ⟨S_, .f32⟩
  | 86 => ⟨S_, .f32⟩
  | 87 => ⟨S_, .f32⟩
  | 88 => ⟨S128x256, .f32⟩
  | 89 => ⟨S128x256, .f32⟩
  | 90 => ⟨S256x128, .f32⟩
  | 91 => ⟨S1024x50x128, .f32⟩
  | 92 => ⟨S1x1x128, .f32⟩
  | 93 => ⟨S1024x50x128, .f32⟩
  | 94 => ⟨S1024x50x128, .f32⟩
  | 95 => ⟨S128x256, .f32⟩
  | 96 => ⟨S128x256, .f32⟩
  | 97 => ⟨S128x256, .f32⟩
  | 98 => ⟨S_, .f32⟩
  | 99 => ⟨S_, .f32⟩
  | 100 => ⟨S_, .f32⟩
  | 101 => ⟨S128x256, .f32⟩
  | 102 => ⟨S128x256, .f32⟩
  | 103 => ⟨S256x128, .f32⟩
  | 104 => ⟨S1024x50x128, .f32⟩
  | 105 => ⟨S1x1x128, .f32⟩
  | 106 => ⟨S1024x50x128, .f32⟩
  | 107 => ⟨S1024x50x128, .f32⟩
  | 108 => ⟨S1024x50x1, .i32⟩
  | 109 => ⟨S_, .i32⟩
  | 110 => ⟨S1024x50x1, .i32⟩
  | 111 => ⟨S1024x50x1, .i1⟩
  | 112 => ⟨S_, .i32⟩
  | 113 => ⟨S1024x50x1, .i32⟩
  | 114 => ⟨S1024x50x1, .i32⟩
  | 115 => ⟨S1024x50x1, .i32⟩
  | 116 => ⟨S1, .i32⟩
  | 117 => ⟨S_, .i32⟩
  | 118 => ⟨S1024x50x1, .i32⟩
  | 119 => ⟨S1024x50x1, .i1⟩
  | 120 => ⟨S1x1x1, .i32⟩
  | 121 => ⟨S1024x50x1, .i32⟩
  | 122 => ⟨S1024x50x1, .i1⟩
  | 123 => ⟨S1024x50x1, .i1⟩
  | 124 => ⟨S_, .i1⟩
  | 125 => ⟨S1024x50, .i1⟩
  | 126 => ⟨S1024x50x128, .f32⟩
  | 127 => ⟨S1024x50x128, .i1⟩
  | _ => ⟨S1024, .i32⟩

abbrev hbmTy0_1 (i : Nat) : BufTy := match i % 128 with
  | 0 => ⟨S_, .f32⟩
  | 1 => ⟨S1024x50x128, .f32⟩
  | 2 => ⟨S1024x50x128, .f32⟩
  | 3 => ⟨S1024x50x1, .i32⟩
  | 4 => ⟨S_, .i32⟩
  | 5 => ⟨S1024x50x1, .i32⟩
  | 6 => ⟨S1024x50x1, .i1⟩
  | 7 => ⟨S_, .i32⟩
  | 8 => ⟨S1024x50x1, .i32⟩
  | 9 => ⟨S1024x50x1, .i32⟩
  | 10 => ⟨S1024x50x1, .i32⟩
  | 11 => ⟨S1, .i32⟩
  | 12 => ⟨S_, .i32⟩
  | 13 => ⟨S1024x50x1, .i32⟩
  | 14 => ⟨S1024x50x1, .i1⟩
  | 15 => ⟨S1x1x1, .i32⟩
  | 16 => ⟨S1024x50x1, .i32⟩
  | 17 => ⟨S1024x50x1, .i1⟩
  | 18 => ⟨S1024x50x1, .i1⟩
  | 19 => ⟨S_, .i1⟩
  | 20 => ⟨S1024x50, .i1⟩
  | 21 => ⟨S1024x50x128, .f32⟩
  | 22 => ⟨S1024x50x128, .i1⟩
  | 23 => ⟨S_, .f32⟩
  | 24 => ⟨S1024x50x128, .f32⟩
  | 25 => ⟨S1024x50x128, .f32⟩
  | 26 => ⟨S1024x50x1, .i32⟩
  | 27 => ⟨S1x1x7, .i32⟩
  | 28 => ⟨S1024x50x7, .i32⟩
  | 29 => ⟨S1024x50x7, .i32⟩
  | 30 => ⟨S1024x50x7, .i1⟩
  | 31 => ⟨S1024x50x7, .f32⟩
  | 32 => ⟨S1024x50x1, .f32⟩
  | 33 => ⟨S1024x50, .f32⟩
  | 34 => ⟨S1024x50x1, .f32⟩
  | 35 => ⟨S1024x50, .f32⟩
  | 36 => ⟨S1024x50, .f32⟩
  | 37 => ⟨S1024x50x1, .f32⟩
  | 38 => ⟨S1024x50, .f32⟩
  | 39 => ⟨S1024x50x1, .f32⟩
  | 40 => ⟨S1024x50, .f32⟩
  | 41 => ⟨S1024x50, .f32⟩
  | 42 => ⟨S1024x50x1, .f32⟩
  | 43 => ⟨S1024x50, .f32⟩
  | 44 => ⟨S1024x50x1, .f32⟩
  | 45 => ⟨S1024x50, .f32⟩
  | 46 => ⟨S1024x50x1, .f32⟩
  | 47 => ⟨S1024x50x128, .f32⟩
  | 48 => ⟨S1024x50x128, .f32⟩
  | 49 => ⟨S1024x50x1, .f32⟩
  | 50 => ⟨S1024x50x128, .f32⟩
  | 51 => ⟨S1024x50x128, .f32⟩
  | 52 => ⟨S1024x50x1, .f32⟩
  | 53 => ⟨S1024x50x128, .f32⟩
  | 54 => ⟨S1024x50x128, .f32⟩
  | 55 => ⟨S1024x50x1, .f32⟩
  | 56 => ⟨S1024x50x128, .f32⟩
  | 57 => ⟨S1024x50x128, .f32⟩
  | 58 => ⟨S1024x50x128, .f32⟩
  | 59 => ⟨S1024x50x512, .f32⟩
  | _ => ⟨S1024, .i32⟩

abbrev hbmTy (i : Nat) : BufTy := match i / 128 with
  | 0 => hbmTy0_0 i
  | 1 => hbmTy0_1 i
  | _ => ⟨S1024, .i32⟩

abbrev bufTy : (tb : Table) → Fin (tcTables nBuf tb) → BufTy
  | .hbm, ⟨i, _⟩ => hbmTy i
  | _, _ => ⟨S1024, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_call0_c : Ref sig .tc := ⟨.hbm, 20, rfl⟩
abbrev main_call0_v0 : Ref sig .tc := ⟨.hbm, 21, rfl⟩
abbrev main_call0_v1 : Ref sig .tc := ⟨.hbm, 22, rfl⟩
abbrev main_call0_c_0 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_v5 : Ref sig .tc := ⟨.hbm, 27, rfl⟩
abbrev main_call0_c_1 : Ref sig .tc := ⟨.hbm, 28, rfl⟩
abbrev main_call0_c_2 : Ref sig .tc := ⟨.hbm, 29, rfl⟩
abbrev main_call0_v6 : Ref sig .tc := ⟨.hbm, 30, rfl⟩
abbrev main_call0_v7 : Ref sig .tc := ⟨.hbm, 31, rfl⟩
abbrev main_call0_v8 : Ref sig .tc := ⟨.hbm, 32, rfl⟩
abbrev main_call0_v9 : Ref sig .tc := ⟨.hbm, 33, rfl⟩
abbrev main_call0_v10 : Ref sig .tc := ⟨.hbm, 34, rfl⟩
abbrev main_call0_v11 : Ref sig .tc := ⟨.hbm, 35, rfl⟩
abbrev main_call0_c_3 : Ref sig .tc := ⟨.hbm, 36, rfl⟩
abbrev main_call0_v12 : Ref sig .tc := ⟨.hbm, 37, rfl⟩
abbrev main_call0_v13 : Ref sig .tc := ⟨.hbm, 38, rfl⟩
abbrev main_call0_v14 : Ref sig .tc := ⟨.hbm, 39, rfl⟩
abbrev main_call0_cst : Ref sig .tc := ⟨.hbm, 40, rfl⟩
abbrev main_call0_v15 : Ref sig .tc := ⟨.hbm, 41, rfl⟩
abbrev main_v0 : Ref sig .tc := ⟨.hbm, 42, rfl⟩
abbrev main_call1_c : Ref sig .tc := ⟨.hbm, 43, rfl⟩
abbrev main_call1_v0 : Ref sig .tc := ⟨.hbm, 44, rfl⟩
abbrev main_call1_v1 : Ref sig .tc := ⟨.hbm, 45, rfl⟩
abbrev main_call1_c_0 : Ref sig .tc := ⟨.hbm, 46, rfl⟩
abbrev main_call1_v2 : Ref sig .tc := ⟨.hbm, 47, rfl⟩
abbrev main_call1_v3 : Ref sig .tc := ⟨.hbm, 48, rfl⟩
abbrev main_call1_v4 : Ref sig .tc := ⟨.hbm, 49, rfl⟩
abbrev main_call1_v5 : Ref sig .tc := ⟨.hbm, 50, rfl⟩
abbrev main_call1_c_1 : Ref sig .tc := ⟨.hbm, 51, rfl⟩
abbrev main_call1_c_2 : Ref sig .tc := ⟨.hbm, 52, rfl⟩
abbrev main_call1_v6 : Ref sig .tc := ⟨.hbm, 53, rfl⟩
abbrev main_call1_v7 : Ref sig .tc := ⟨.hbm, 54, rfl⟩
abbrev main_call1_v8 : Ref sig .tc := ⟨.hbm, 55, rfl⟩
abbrev main_call1_v9 : Ref sig .tc := ⟨.hbm, 56, rfl⟩
abbrev main_call1_v10 : Ref sig .tc := ⟨.hbm, 57, rfl⟩
abbrev main_call1_v11 : Ref sig .tc := ⟨.hbm, 58, rfl⟩
abbrev main_call1_c_3 : Ref sig .tc := ⟨.hbm, 59, rfl⟩
abbrev main_call1_v12 : Ref sig .tc := ⟨.hbm, 60, rfl⟩
abbrev main_call1_v13 : Ref sig .tc := ⟨.hbm, 61, rfl⟩
abbrev main_call1_v14 : Ref sig .tc := ⟨.hbm, 62, rfl⟩
abbrev main_call1_cst : Ref sig .tc := ⟨.hbm, 63, rfl⟩
abbrev main_call1_v15 : Ref sig .tc := ⟨.hbm, 64, rfl⟩
abbrev main_v1 : Ref sig .tc := ⟨.hbm, 65, rfl⟩
abbrev main_v2 : Ref sig .tc := ⟨.hbm, 66, rfl⟩
abbrev main_v3 : Ref sig .tc := ⟨.hbm, 67, rfl⟩
abbrev main_v4 : Ref sig .tc := ⟨.hbm, 68, rfl⟩
abbrev main_v5 : Ref sig .tc := ⟨.hbm, 69, rfl⟩
abbrev main_v6 : Ref sig .tc := ⟨.hbm, 70, rfl⟩
abbrev main_call2_v0 : Ref sig .tc := ⟨.hbm, 71, rfl⟩
abbrev main_call2_cst : Ref sig .tc := ⟨.hbm, 72, rfl⟩
abbrev main_call2_v1 : Ref sig .tc := ⟨.hbm, 73, rfl⟩
abbrev main_v7 : Ref sig .tc := ⟨.hbm, 74, rfl⟩
abbrev main_v8 : Ref sig .tc := ⟨.hbm, 75, rfl⟩
abbrev main_v9 : Ref sig .tc := ⟨.hbm, 76, rfl⟩
abbrev main_v10 : Ref sig .tc := ⟨.hbm, 77, rfl⟩
abbrev main_v11 : Ref sig .tc := ⟨.hbm, 78, rfl⟩
abbrev main_v12 : Ref sig .tc := ⟨.hbm, 79, rfl⟩
abbrev main_v13 : Ref sig .tc := ⟨.hbm, 80, rfl⟩
abbrev main_v14 : Ref sig .tc := ⟨.hbm, 81, rfl⟩
abbrev main_v15 : Ref sig .tc := ⟨.hbm, 82, rfl⟩
abbrev main_v16 : Ref sig .tc := ⟨.hbm, 83, rfl⟩
abbrev main_call3_v0 : Ref sig .tc := ⟨.hbm, 84, rfl⟩
abbrev main_call3_cst : Ref sig .tc := ⟨.hbm, 85, rfl⟩
abbrev main_call3_v1 : Ref sig .tc := ⟨.hbm, 86, rfl⟩
abbrev main_v17 : Ref sig .tc := ⟨.hbm, 87, rfl⟩
abbrev main_v18 : Ref sig .tc := ⟨.hbm, 88, rfl⟩
abbrev main_v19 : Ref sig .tc := ⟨.hbm, 89, rfl⟩
abbrev main_v20 : Ref sig .tc := ⟨.hbm, 90, rfl⟩
abbrev main_v21 : Ref sig .tc := ⟨.hbm, 91, rfl⟩
abbrev main_v22 : Ref sig .tc := ⟨.hbm, 92, rfl⟩
abbrev main_v23 : Ref sig .tc := ⟨.hbm, 93, rfl⟩
abbrev main_v24 : Ref sig .tc := ⟨.hbm, 94, rfl⟩
abbrev main_v25 : Ref sig .tc := ⟨.hbm, 95, rfl⟩
abbrev main_v26 : Ref sig .tc := ⟨.hbm, 96, rfl⟩
abbrev main_call4_v0 : Ref sig .tc := ⟨.hbm, 97, rfl⟩
abbrev main_call4_cst : Ref sig .tc := ⟨.hbm, 98, rfl⟩
abbrev main_call4_v1 : Ref sig .tc := ⟨.hbm, 99, rfl⟩
abbrev main_v27 : Ref sig .tc := ⟨.hbm, 100, rfl⟩
abbrev main_v28 : Ref sig .tc := ⟨.hbm, 101, rfl⟩
abbrev main_v29 : Ref sig .tc := ⟨.hbm, 102, rfl⟩
abbrev main_v30 : Ref sig .tc := ⟨.hbm, 103, rfl⟩
abbrev main_v31 : Ref sig .tc := ⟨.hbm, 104, rfl⟩
abbrev main_v32 : Ref sig .tc := ⟨.hbm, 105, rfl⟩
abbrev main_v33 : Ref sig .tc := ⟨.hbm, 106, rfl⟩
abbrev main_v34 : Ref sig .tc := ⟨.hbm, 107, rfl⟩
abbrev main_v35 : Ref sig .tc := ⟨.hbm, 108, rfl⟩
abbrev main_call5_c : Ref sig .tc := ⟨.hbm, 109, rfl⟩
abbrev main_call5_v0 : Ref sig .tc := ⟨.hbm, 110, rfl⟩
abbrev main_call5_v1 : Ref sig .tc := ⟨.hbm, 111, rfl⟩
abbrev main_call5_c_0 : Ref sig .tc := ⟨.hbm, 112, rfl⟩
abbrev main_call5_v2 : Ref sig .tc := ⟨.hbm, 113, rfl⟩
abbrev main_call5_v3 : Ref sig .tc := ⟨.hbm, 114, rfl⟩
abbrev main_call5_v4 : Ref sig .tc := ⟨.hbm, 115, rfl⟩
abbrev main_call5_c_1 : Ref sig .tc := ⟨.hbm, 116, rfl⟩
abbrev main_call5_c_2 : Ref sig .tc := ⟨.hbm, 117, rfl⟩
abbrev main_call5_v5 : Ref sig .tc := ⟨.hbm, 118, rfl⟩
abbrev main_call5_v6 : Ref sig .tc := ⟨.hbm, 119, rfl⟩
abbrev main_call5_v7 : Ref sig .tc := ⟨.hbm, 120, rfl⟩
abbrev main_call5_v8 : Ref sig .tc := ⟨.hbm, 121, rfl⟩
abbrev main_call5_v9 : Ref sig .tc := ⟨.hbm, 122, rfl⟩
abbrev main_call5_v10 : Ref sig .tc := ⟨.hbm, 123, rfl⟩
abbrev main_call5_c_3 : Ref sig .tc := ⟨.hbm, 124, rfl⟩
abbrev main_call5_v11 : Ref sig .tc := ⟨.hbm, 125, rfl⟩
abbrev main_call5_v12 : Ref sig .tc := ⟨.hbm, 126, rfl⟩
abbrev main_call5_v13 : Ref sig .tc := ⟨.hbm, 127, rfl⟩
abbrev main_call5_cst : Ref sig .tc := ⟨.hbm, 128, rfl⟩
abbrev main_call5_v14 : Ref sig .tc := ⟨.hbm, 129, rfl⟩
abbrev main_v36 : Ref sig .tc := ⟨.hbm, 130, rfl⟩
abbrev main_v37 : Ref sig .tc := ⟨.hbm, 131, rfl⟩
abbrev main_call6_c : Ref sig .tc := ⟨.hbm, 132, rfl⟩
abbrev main_call6_v0 : Ref sig .tc := ⟨.hbm, 133, rfl⟩
abbrev main_call6_v1 : Ref sig .tc := ⟨.hbm, 134, rfl⟩
abbrev main_call6_c_0 : Ref sig .tc := ⟨.hbm, 135, rfl⟩
abbrev main_call6_v2 : Ref sig .tc := ⟨.hbm, 136, rfl⟩
abbrev main_call6_v3 : Ref sig .tc := ⟨.hbm, 137, rfl⟩
abbrev main_call6_v4 : Ref sig .tc := ⟨.hbm, 138, rfl⟩
abbrev main_call6_c_1 : Ref sig .tc := ⟨.hbm, 139, rfl⟩
abbrev main_call6_c_2 : Ref sig .tc := ⟨.hbm, 140, rfl⟩
abbrev main_call6_v5 : Ref sig .tc := ⟨.hbm, 141, rfl⟩
abbrev main_call6_v6 : Ref sig .tc := ⟨.hbm, 142, rfl⟩
abbrev main_call6_v7 : Ref sig .tc := ⟨.hbm, 143, rfl⟩
abbrev main_call6_v8 : Ref sig .tc := ⟨.hbm, 144, rfl⟩
abbrev main_call6_v9 : Ref sig .tc := ⟨.hbm, 145, rfl⟩
abbrev main_call6_v10 : Ref sig .tc := ⟨.hbm, 146, rfl⟩
abbrev main_call6_c_3 : Ref sig .tc := ⟨.hbm, 147, rfl⟩
abbrev main_call6_v11 : Ref sig .tc := ⟨.hbm, 148, rfl⟩
abbrev main_call6_v12 : Ref sig .tc := ⟨.hbm, 149, rfl⟩
abbrev main_call6_v13 : Ref sig .tc := ⟨.hbm, 150, rfl⟩
abbrev main_call6_cst : Ref sig .tc := ⟨.hbm, 151, rfl⟩
abbrev main_call6_v14 : Ref sig .tc := ⟨.hbm, 152, rfl⟩
abbrev main_v38 : Ref sig .tc := ⟨.hbm, 153, rfl⟩
abbrev main_call7_v0 : Ref sig .tc := ⟨.hbm, 154, rfl⟩
abbrev main_call7_v1 : Ref sig .tc := ⟨.hbm, 155, rfl⟩
abbrev main_call7_v2 : Ref sig .tc := ⟨.hbm, 156, rfl⟩
abbrev main_call7_v3 : Ref sig .tc := ⟨.hbm, 157, rfl⟩
abbrev main_call7_v4 : Ref sig .tc := ⟨.hbm, 158, rfl⟩
abbrev main_v39 : Ref sig .tc := ⟨.hbm, 159, rfl⟩
abbrev main_v40 : Ref sig .tc := ⟨.hbm, 160, rfl⟩
abbrev main_v41 : Ref sig .tc := ⟨.hbm, 161, rfl⟩
abbrev main_v42 : Ref sig .tc := ⟨.hbm, 162, rfl⟩
abbrev main_v43 : Ref sig .tc := ⟨.hbm, 163, rfl⟩
abbrev main_v44 : Ref sig .tc := ⟨.hbm, 164, rfl⟩
abbrev main_v45 : Ref sig .tc := ⟨.hbm, 165, rfl⟩
abbrev main_v46 : Ref sig .tc := ⟨.hbm, 166, rfl⟩
abbrev main_v47 : Ref sig .tc := ⟨.hbm, 167, rfl⟩
abbrev main_v48 : Ref sig .tc := ⟨.hbm, 168, rfl⟩
abbrev main_v49 : Ref sig .tc := ⟨.hbm, 169, rfl⟩
abbrev main_v50 : Ref sig .tc := ⟨.hbm, 170, rfl⟩
abbrev main_v51 : Ref sig .tc := ⟨.hbm, 171, rfl⟩
abbrev main_v52 : Ref sig .tc := ⟨.hbm, 172, rfl⟩
abbrev main_v53 : Ref sig .tc := ⟨.hbm, 173, rfl⟩
abbrev main_v54 : Ref sig .tc := ⟨.hbm, 174, rfl⟩
abbrev main_v55 : Ref sig .tc := ⟨.hbm, 175, rfl⟩
abbrev main_v56 : Ref sig .tc := ⟨.hbm, 176, rfl⟩
abbrev main_v57 : Ref sig .tc := ⟨.hbm, 177, rfl⟩
abbrev main_v58 : Ref sig .tc := ⟨.hbm, 178, rfl⟩
abbrev main_v59 : Ref sig .tc := ⟨.hbm, 179, rfl⟩
abbrev main_v60 : Ref sig .tc := ⟨.hbm, 180, rfl⟩
abbrev main_v61 : Ref sig .tc := ⟨.hbm, 181, rfl⟩
abbrev main_v62 : Ref sig .tc := ⟨.hbm, 182, rfl⟩
abbrev main_v63 : Ref sig .tc := ⟨.hbm, 183, rfl⟩
abbrev main_v64 : Ref sig .tc := ⟨.hbm, 184, rfl⟩
abbrev main_v65 : Ref sig .tc := ⟨.hbm, 185, rfl⟩
abbrev main_v66 : Ref sig .tc := ⟨.hbm, 186, rfl⟩
abbrev main_v67 : Ref sig .tc := ⟨.hbm, 187, rfl⟩

abbrev nD : Nat := 1
abbrev τ : Topo := Topo.v7x

variable {F : FTy → Type} [FloatOps F]
-- ==== Proof.Spec.lean ====
/-
  The mathematics of one action-embedding result, over extended reals: the four pieces of a row (command, target type,
  position, target unit), and the small laws the two programs meet in: a one-hot sum picks one entry; a weight-normed
  dense layer may be scaled after the sum or before it.
-/
module

public import Idealize.ShloMosaic.Lib.Pointwise
public import Idealize.ShloMosaic.Lib.ValueIdx
public import Idealize.ShloMosaic.Lib.WordCmp

@[expose] public section

set_option maxRecDepth 16384

noncomputable section

namespace Cert.ActionEmb

open Idealize.ShloMosaic

/-- One where the condition holds, zero where it does not. -/
def ind (p : Prop) [Decidable p] : EReal := if p then 1 else 0

/-- The entry a word names among `n`. -/
def pick (n : Nat) [NeZero n] (w : BitVec 32) : Fin n := Fin.ofNat n w.toNat

/-- The sum of the squares of a weight's direction `v`. -/
def sumSq {K : Nat} (v : Fin 128 → Fin K → EReal) : EReal := ∑ i, ∑ k, v i k * v i k

/-- The normed weight at output lane `l` and input `k`: `g * v / ‖v‖`. -/
def weight {K : Nat} (v : Fin 128 → Fin K → EReal) (g : EReal) (l : Fin 128) (k : Fin K) : EReal :=
  Ideal.div (g * v l k) (Ideal.sqrt (sumSq v))

/-- The weight-normed dense layer on the input `e`, at output lane `l`. -/
def dense {K : Nat} (v : Fin 128 → Fin K → EReal) (g : EReal) (b : Fin 128 → EReal) (e : Fin K → EReal) (l : Fin 128) :
    EReal := (∑ k, e k * weight v g l k) + b l

/-- The command piece. -/
def cmdPiece (emb : Fin 7 → Fin 128 → EReal) (w : BitVec 32) (l : Fin 128) : EReal := emb (pick 7 w) l

/-- The target-type piece: present under commands 3 and 4. -/
def tgtPiece (emb : Fin 1000 → Fin 128 → EReal) (w t : BitVec 32) (l : Fin 128) : EReal :=
  ind (w = 3#32 ∨ w = 4#32) * emb (pick 1000 t) l

/-- The position piece: present under commands 3 and 5. -/
def xyPiece (v : Fin 128 → Fin 2 → EReal) (g : EReal) (b : Fin 128 → EReal) (w : BitVec 32) (x y : EReal) (l : Fin 128) :
    EReal := ind (w = 3#32 ∨ w = 5#32) * dense v g b ![x, y] l

/-- The target-unit piece: the attacked enemy under command 2, the gathered resource under command 1. -/
def unitPiece (ve vr : Fin 128 → Fin 256 → EReal) (ge gr : EReal) (be br : Fin 128 → EReal)
    (w : BitVec 32) (e r : Fin 256 → EReal) (l : Fin 128) : EReal :=
  ind (w = 2#32) * dense ve ge be e l + ind (w = 1#32) * dense vr gr br r l

/-- A finite extended real: neither infinity. -/
def Fin' (a : EReal) : Prop := a ≠ ⊤ ∧ a ≠ ⊥

/-- The argument arrays at coordinates: batch row, unit position, lane or feature. -/
structure Args where
  cmd : Fin 1024 → Fin 50 → BitVec 32
  tgt : Fin 1024 → Fin 50 → BitVec 32
  x : Fin 1024 → Fin 50 → EReal
  y : Fin 1024 → Fin 50 → EReal
  attack : Fin 1024 → Fin 50 → BitVec 32
  gather : Fin 1024 → Fin 50 → BitVec 32
  ef : Fin 1024 → Fin 50 → Fin 256 → EReal
  rf : Fin 1024 → Fin 50 → Fin 256 → EReal
  cemb : Fin 7 → Fin 128 → EReal
  temb : Fin 1000 → Fin 128 → EReal
  vxy : Fin 128 → Fin 2 → EReal
  gxy : EReal
  bxy : Fin 128 → EReal
  ve : Fin 128 → Fin 256 → EReal
  ge : EReal
  be : Fin 128 → EReal
  vr : Fin 128 → Fin 256 → EReal
  gr : EReal
  br : Fin 128 → EReal

/-- What the claim assumes of the arguments: indices in range, the features and their layers' scales finite, no weight
    direction zero. -/
structure Args.Ok (A : Args) : Prop where
  cmd : ∀ b p, (A.cmd b p).toNat < 7
  tgt : ∀ b p, (A.tgt b p).toNat < 1000
  attack : ∀ b p, (A.attack b p).toNat < 50
  gather : ∀ b p, (A.gather b p).toNat < 50
  ef : ∀ b p k, Fin' (A.ef b p k)
  rf : ∀ b p k, Fin' (A.rf b p k)
  ge : Fin' A.ge
  gr : Fin' A.gr
  vxy : 0 < sumSq A.vxy
  ve : 0 < sumSq A.ve
  vr : 0 < sumSq A.vr

/-- The target-unit piece of batch row `b` and position `p`. -/
def unitAt (A : Args) (b : Fin 1024) (p : Fin 50) (l : Fin 128) : EReal :=
  unitPiece A.ve A.vr A.ge A.gr A.be A.br (A.cmd b p) (A.ef b (pick 50 (A.attack b p))) (A.rf b (pick 50 (A.gather b p))) l

/-- The result at batch row `b`, position `p`, lane `c` of the four pieces side by side. -/
def result (A : Args) (b : Fin 1024) (p : Fin 50) (c : Fin 512) : EReal :=
  if h1 : c.val < 128 then cmdPiece A.cemb (A.cmd b p) ⟨c.val, h1⟩
  else if h2 : c.val < 256 then tgtPiece A.temb (A.cmd b p) (A.tgt b p) ⟨c.val - 128, by omega⟩
  else if h3 : c.val < 384 then xyPiece A.vxy A.gxy A.bxy (A.cmd b p) (A.x b p) (A.y b p) ⟨c.val - 256, by omega⟩
  else unitAt A b p ⟨c.val - 384, by omega⟩

theorem result_cmd (A : Args) (b : Fin 1024) (p : Fin 50) (l : Fin 128) (c : Fin 512) (h : c.val = l.val) :
    result A b p c = cmdPiece A.cemb (A.cmd b p) l := by
  unfold result
  rw [dif_pos (by omega)]
  exact congrArg _ (Fin.ext h)

theorem result_tgt (A : Args) (b : Fin 1024) (p : Fin 50) (l : Fin 128) (c : Fin 512) (h : c.val = 128 + l.val) :
    result A b p c = tgtPiece A.temb (A.cmd b p) (A.tgt b p) l := by
  unfold result
  rw [dif_neg (by omega), dif_pos (by omega)]
  exact congrArg _ (Fin.ext (by show c.val - 128 = _; omega))

theorem result_xy (A : Args) (b : Fin 1024) (p : Fin 50) (l : Fin 128) (c : Fin 512) (h : c.val = 256 + l.val) :
    result A b p c = xyPiece A.vxy A.gxy A.bxy (A.cmd b p) (A.x b p) (A.y b p) l := by
  unfold result
  rw [dif_neg (by omega), dif_neg (by omega), dif_pos (by omega)]
  exact congrArg _ (Fin.ext (by show c.val - 256 = _; omega))

theorem result_unit (A : Args) (b : Fin 1024) (p : Fin 50) (l : Fin 128) (c : Fin 512) (h : c.val = 384 + l.val) :
    result A b p c = unitAt A b p l := by
  unfold result
  rw [dif_neg (by omega), dif_neg (by omega), dif_neg (by omega)]
  exact congrArg _ (Fin.ext (by show c.val - 384 = _; omega))

/-! ## Masks and one-hot sums -/

theorem ind_true {p : Prop} [Decidable p] (h : p) : ind p = 1 := if_pos h
theorem ind_false {p : Prop} [Decidable p] (h : ¬ p) : ind p = 0 := if_neg h

/-- A mask distributes over a sum. -/
theorem ind_mul_add (p : Prop) [Decidable p] (a b : EReal) : ind p * (a + b) = ind p * a + ind p * b := by
  by_cases h : p
  · rw [ind_true h, one_mul, one_mul, one_mul]
  · rw [ind_false h, zero_mul, zero_mul, zero_mul, add_zero]

/-- A bit read as a signed number after widening to 32 bits is one or zero. -/
theorem sitofp_bit (b : Bool) :
    (FloatOps.sitofp .f32 (BitVec.setWidth 32 (BitVec.ofBool b)) : Ideal .f32) = ind (b = true) := by
  show ((((BitVec.setWidth 32 (BitVec.ofBool b)).toInt : ℤ) : ℝ) : EReal) = _
  cases b
  · rw [ind_false (by simp)]; have : (BitVec.setWidth 32 (BitVec.ofBool false)).toInt = 0 := by decide
    rw [this]; simp
  · rw [ind_true rfl]; have : (BitVec.setWidth 32 (BitVec.ofBool true)).toInt = 1 := by decide
    rw [this]; simp

/-- An equality test of words, widened and read as a number. -/
theorem sitofp_eq (a b : BitVec 32) :
    (FloatOps.sitofp .f32 (BitVec.setWidth 32 (IntOp.cmpi .eq a b)) : Ideal .f32) = ind (a = b) := by
  rw [WordCmp.cmpi_eq_eq, sitofp_bit]; simp only [decide_eq_true_eq]

/-- Two equality tests joined by `or`, widened and read as a number. -/
theorem sitofp_or (a b c d : BitVec 32) :
    (FloatOps.sitofp .f32 (BitVec.setWidth 32 (IntOp.ori (IntOp.cmpi .eq a b) (IntOp.cmpi .eq c d))) : Ideal .f32)
      = ind (a = b ∨ c = d) := by
  rw [WordCmp.cmpi_eq_eq, WordCmp.cmpi_eq_eq]
  have h : IntOp.ori (BitVec.ofBool (decide (a = b))) (BitVec.ofBool (decide (c = d)))
      = BitVec.ofBool (decide (a = b ∨ c = d)) := by
    by_cases h1 : a = b <;> by_cases h2 : c = d <;> simp [h1, h2, IntOp.ori]
  rw [h, sitofp_bit]; simp only [decide_eq_true_eq]

/-- A sum against the one-hot row of a word below its length is the entry the word names. -/
theorem sum_oneHot {n : Nat} (hn : n < 2 ^ 32) (w : BitVec 32) (hw : w.toNat < n) (f : Fin n → EReal) :
    ∑ x : Fin n, ind (BitVec.ofNat 32 x.val = w) * f x = f ⟨w.toNat, hw⟩ := by
  rw [Finset.sum_eq_single (⟨w.toNat, hw⟩ : Fin n)]
  · rw [ind_true (by simp), one_mul]
  · intro x _ hx
    rw [ind_false, zero_mul]
    intro h
    apply hx
    apply Fin.ext
    have := congrArg BitVec.toNat h
    rwa [BitVec.toNat_ofNat, Nat.mod_eq_of_lt (lt_trans x.isLt hn)] at this
  · intro h; exact absurd (Finset.mem_univ _) h

/-- The same with a common factor beside the one-hot row. -/
theorem sum_oneHot_mul {n : Nat} (hn : n < 2 ^ 32) (w : BitVec 32) (hw : w.toNat < n) (a : EReal) (f : Fin n → EReal) :
    ∑ x : Fin n, ind (BitVec.ofNat 32 x.val = w) * a * f x = a * f ⟨w.toNat, hw⟩ := by
  rw [← sum_oneHot hn w hw fun x => a * f x]
  exact Finset.sum_congr rfl fun x _ => mul_assoc _ _ _

theorem pick_eq {n : Nat} [NeZero n] {w : BitVec 32} (hw : w.toNat < n) : pick n w = ⟨w.toNat, hw⟩ :=
  Fin.ext (Nat.mod_eq_of_lt hw)

/-! ## Finiteness and the norm -/

theorem Fin'.coe {a : EReal} (h : Fin' a) : ∃ r : ℝ, a = r := ⟨a.toReal, (EReal.coe_toReal h.1 h.2).symm⟩

theorem coe_sum {ι : Type} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

theorem mul_self_nonneg' (a : EReal) : 0 ≤ a * a := by
  induction a with
  | bot => simp
  | top => simp
  | coe r => rw [← EReal.coe_mul]; exact_mod_cast mul_self_nonneg r

/-- A finite sum of squares has finite terms. -/
theorem finite_of_sumSq {K : Nat} (v : Fin 128 → Fin K → EReal) (h : sumSq v ≠ ⊤) (l : Fin 128) (k : Fin K) :
    Fin' (v l k) := by
  have h1 : v l k * v l k ≤ sumSq v := by
    refine le_trans ?_ (Finset.single_le_sum (f := fun i => ∑ k, v i k * v i k)
      (fun i _ => Finset.sum_nonneg fun k _ => mul_self_nonneg' _) (Finset.mem_univ l))
    exact Finset.single_le_sum (f := fun k => v l k * v l k) (fun k _ => mul_self_nonneg' _) (Finset.mem_univ k)
  constructor
  · intro e; rw [e] at h1; simp at h1; exact h h1
  · intro e; rw [e] at h1; simp at h1; exact h h1

theorem sqrt_top : Ideal.sqrt ⊤ = ⊤ := rfl

theorem sqrt_ne_zero {S : EReal} (h : 0 < S) : Ideal.sqrt S ≠ 0 := by
  induction S with
  | bot => simp at h
  | top => rw [sqrt_top]; exact EReal.top_ne_zero
  | coe r =>
    have hr : 0 < r := by exact_mod_cast h
    have : Ideal.sqrt (r : EReal) = ((Real.sqrt r : ℝ) : EReal) := by
      show (if r < 0 then ⊥ else (Real.sqrt r : EReal)) = _
      rw [if_neg (not_lt.mpr hr.le)]
    rw [this]
    exact_mod_cast (Real.sqrt_pos.mpr hr).ne'

theorem div_of_ne {x y : EReal} (h : y ≠ 0) : Ideal.div x y = x * y⁻¹ := if_neg h

/-- The scale may be taken before the entry or after it: no finiteness needed. -/
theorem mul_div_norm {n : EReal} (h : n ≠ 0) (v g : EReal) : v * Ideal.div g n = Ideal.div (g * v) n := by
  rw [div_of_ne h, div_of_ne h, ← mul_assoc, mul_comm v g]

/-- The dense layer with the scale `g / ‖v‖` taken after the sum, for a finite input and scale and a direction that is
    not zero. Where the norm is infinite the scale is zero and both sides are; otherwise every number is finite. -/
theorem sum_scaled {K : Nat} (v : Fin 128 → Fin K → EReal) (g : EReal) (e : Fin K → EReal) (l : Fin 128)
    (hg : Fin' g) (he : ∀ k, Fin' (e k)) (hS : 0 < sumSq v) :
    (∑ k, e k * v l k) * Ideal.div g (Ideal.sqrt (sumSq v)) = ∑ k, e k * weight v g l k := by
  have hn := sqrt_ne_zero hS
  have hw : ∀ k, e k * weight v g l k = (e k * v l k) * Ideal.div g (Ideal.sqrt (sumSq v)) := fun k => by
    unfold weight; rw [← mul_div_norm hn, mul_assoc]
  rw [Finset.sum_congr rfl fun k _ => hw k, div_of_ne hn]
  by_cases hT : sumSq v = ⊤
  · have h0 : g * (Ideal.sqrt (sumSq v))⁻¹ = 0 := by rw [hT, sqrt_top]; simp
    rw [h0]; simp
  · obtain ⟨g', rfl⟩ := hg.coe
    obtain ⟨e', he'⟩ : ∃ e' : Fin K → ℝ, ∀ k, e k = e' k := ⟨_, fun k => ((he k).coe).choose_spec⟩
    obtain ⟨v', hv'⟩ : ∃ v' : Fin K → ℝ, ∀ k, v l k = v' k :=
      ⟨_, fun k => ((finite_of_sumSq v hT l k).coe).choose_spec⟩
    obtain ⟨n', hn'⟩ : ∃ n' : ℝ, (Ideal.sqrt (sumSq v))⁻¹ = n' := by
      have hs : ∃ s : ℝ, Ideal.sqrt (sumSq v) = s := by
        obtain ⟨S, h⟩ : ∃ S : ℝ, sumSq v = S := Fin'.coe ⟨hT, fun h => by rw [h] at hS; simp at hS⟩
        have hr : 0 < S := by rw [h] at hS; exact_mod_cast hS
        refine ⟨Real.sqrt S, ?_⟩
        rw [h]
        show (if S < 0 then ⊥ else (Real.sqrt S : EReal)) = _
        rw [if_neg (not_lt.mpr hr.le)]
      obtain ⟨s, hs⟩ := hs
      exact ⟨s⁻¹, by rw [hs, EReal.coe_inv]⟩
    rw [hn', ← EReal.coe_mul]
    simp only [he', hv', ← EReal.coe_mul, ← coe_sum]
    rw [Finset.sum_mul]

end Cert.ActionEmb
end
-- ==== Proof.Block.lean ====
/-
  What one block computes: the four stored payloads of the kernel body, read at one element, are the four pieces of the
  action embedding of the unit the row of the packed block names.
-/
module

public import proofs.«01_k».proof.Proof.Gen.KernelIdeal.Frame
public import proofs.«01_k».proof.Proof.Spec

@[expose] public section

set_option maxRecDepth 16384

noncomputable section

namespace Cert.KernelIdeal.Block

open Cert.KernelIdeal Cert.KernelIdeal.Gen Cert.ActionEmb Idealize.ShloMosaic Idealize.SL.Sem

/-- The packed row of position `p` and in-block batch row `q`. -/
abbrev row (p : Fin 50) (q : Fin 16) : Fin 800 := ⟨p.val * 16 + q.val, by omega⟩

/-- The first store: the command's embedding. -/
theorem pay_cmd (v0 : Vec Ideal S1x4x800 .i32) (v41 : Vec Ideal S7x128 .f32) (p : Fin 50) (q : Fin 16) (l : Fin 128)
    (hw : (v0 (ix3 0 0 (row p q))).toNat < 7) :
    k0_pay15 (F := Ideal) (k0_pay14 v0 v41) (ix3 p q l)
      = cmdPiece (fun i j => v41 (ix2 i j)) (v0 (ix3 0 0 (row p q))) l := by
  pointwise [k0_pay15, k0_pay14, k0_pay3, k0_pay2]
  refine (Finset.sum_congr rfl fun x _ => ?_).trans ((sum_oneHot (by norm_num) _ hw fun x => v41 (ix2 x l)).trans ?_)
  · rw [sitofp_eq]
  · unfold cmdPiece; rw [pick_eq hw]

/-- The second store: the target type's embedding under its mask. -/
theorem pay_tgt (v0 : Vec Ideal S1x4x800 .i32) (v41 : Vec Ideal S1000x128 .f32) (p : Fin 50) (q : Fin 16) (l : Fin 128)
    (hw : (v0 (ix3 0 1 (row p q))).toNat < 1000) :
    k0_pay16 (F := Ideal) (k0_pay4 v0) (k0_pay10 v0) v41 (ix3 p q l)
      = tgtPiece (fun i j => v41 (ix2 i j)) (v0 (ix3 0 0 (row p q))) (v0 (ix3 0 1 (row p q))) l := by
  pointwise [k0_pay16, k0_pay4, k0_pay10, k0_pay3, k0_pay2]
  refine (Finset.sum_congr rfl fun x _ => ?_).trans
    ((sum_oneHot_mul (by norm_num) _ hw (ind (v0 (ix3 0 0 (row p q)) = 3#32 ∨ v0 (ix3 0 0 (row p q)) = 4#32))
      fun x => v41 (ix2 x l)).trans ?_)
  · rw [sitofp_eq, sitofp_or]
  · unfold tgtPiece; rw [pick_eq hw]

/-- The third store: the masked coordinates against the normed weight, the bias as a third row. -/
theorem pay_xy (v0 : Vec Ideal S1x4x800 .i32) (v6 : Vec Ideal S1x2x800 .f32) (a : Vec Ideal S2x128 .f32) (b : Vec Ideal S1x1 .f32)
    (c : Vec Ideal S1x128 .f32) (p : Fin 50) (q : Fin 16) (l : Fin 128)
    (hS : 0 < sumSq fun i k => a (ix2 k i)) :
    k0_pay17 (F := Ideal) (k0_pay8 v6) (k0_pay9 v6) (k0_pay11 v0) a b c (ix3 p q l)
      = xyPiece (fun i k => a (ix2 k i)) (b (ix2 0 0)) (fun l => c (ix2 0 l)) (v0 (ix3 0 0 (row p q)))
          (v6 (ix3 0 0 (row p q))) (v6 (ix3 0 1 (row p q))) l := by
  pointwise [k0_pay17, k0_pay8, k0_pay9, k0_pay7, k0_pay11, k0_pay3, k0_pay2]
  have hn := sqrt_ne_zero hS
  have hsum : (∑ x : Fin 2, ∑ y : Fin 128, a (ix2 x y) * a (ix2 x y)) = sumSq fun i k => a (ix2 k i) :=
    Finset.sum_comm
  simp only [sitofp_or]
  rw [Fin.sum_univ_three]
  show v6 (ix3 0 0 (row p q)) * ind (v0 (ix3 0 0 (row p q)) = 3#32 ∨ v0 (ix3 0 0 (row p q)) = 5#32)
        * (a (ix2 0 l) * Ideal.div (b (ix2 0 0)) (Ideal.sqrt (∑ x : Fin 2, ∑ y : Fin 128, a (ix2 x y) * a (ix2 x y))))
      + v6 (ix3 0 1 (row p q)) * ind (v0 (ix3 0 0 (row p q)) = 3#32 ∨ v0 (ix3 0 0 (row p q)) = 5#32)
        * (a (ix2 1 l) * Ideal.div (b (ix2 0 0)) (Ideal.sqrt (∑ x : Fin 2, ∑ y : Fin 128, a (ix2 x y) * a (ix2 x y))))
      + ind (v0 (ix3 0 0 (row p q)) = 3#32 ∨ v0 (ix3 0 0 (row p q)) = 5#32) * c (ix2 0 l) = _
  rw [hsum, mul_div_norm hn (a (ix2 0 l)), mul_div_norm hn (a (ix2 1 l))]
  unfold xyPiece dense
  rw [Fin.sum_univ_two, ind_mul_add, ind_mul_add, mul_comm (v6 (ix3 0 0 (row p q))) (ind _), mul_comm (v6 (ix3 0 1 (row p q))) (ind _),
    mul_assoc, mul_assoc]
  rfl

/-- A feature row projected, before the bias, the scale taken after the sum. -/
theorem pay_proj_e (v83 : Vec Ideal S128x256 .f32) (v84 : Vec Ideal S1x1 .f32) (v103 : Vec Ideal S50x16x256 .f32)
    (i : Fin 50) (q : Fin 16) (l : Fin 128) (hg : Fin' (v84 (ix2 0 0))) (he : ∀ k, Fin' (v103 (ix3 i q k)))
    (hS : 0 < sumSq fun i k => v83 (ix2 i k)) :
    k0_pay18 (F := Ideal) v83 v84 v103 (ix2 (row i q) l)
      = ∑ k, v103 (ix3 i q k) * weight (fun i k => v83 (ix2 i k)) (v84 (ix2 0 0)) l k := by
  pointwise [k0_pay18]
  rw [← sum_scaled _ _ _ l hg he hS]
  have h1 : (⟨(i.val * 16 + q.val) / 16, by omega⟩ : Fin 50) = i := Fin.ext (by show _ / 16 = _; omega)
  have h2 : (⟨(i.val * 16 + q.val) % 16, by omega⟩ : Fin 16) = q := Fin.ext (by show _ % 16 = _; omega)
  exact congrArg₂ (· * ·) (Finset.sum_congr rfl fun x _ => congrArg₂ (fun a b => v103 (ix3 a b x) * v83 (ix2 l x)) h1 h2) rfl

/-- The same for the resources. -/
theorem pay_proj_r (v83 : Vec Ideal S128x256 .f32) (v84 : Vec Ideal S1x1 .f32) (v103 : Vec Ideal S50x16x256 .f32)
    (i : Fin 50) (q : Fin 16) (l : Fin 128) (hg : Fin' (v84 (ix2 0 0))) (he : ∀ k, Fin' (v103 (ix3 i q k)))
    (hS : 0 < sumSq fun i k => v83 (ix2 i k)) :
    k0_pay19 (F := Ideal) v83 v84 v103 (ix2 (row i q) l)
      = ∑ k, v103 (ix3 i q k) * weight (fun i k => v83 (ix2 i k)) (v84 (ix2 0 0)) l k := by
  pointwise [k0_pay19]
  rw [← sum_scaled _ _ _ l hg he hS]
  have h1 : (⟨(i.val * 16 + q.val) / 16, by omega⟩ : Fin 50) = i := Fin.ext (by show _ / 16 = _; omega)
  have h2 : (⟨(i.val * 16 + q.val) % 16, by omega⟩ : Fin 16) = q := Fin.ext (by show _ % 16 = _; omega)
  exact congrArg₂ (· * ·) (Finset.sum_congr rfl fun x _ => congrArg₂ (fun a b => v103 (ix3 a b x) * v83 (ix2 l x)) h1 h2) rfl

/-- The word `16 * w + (r mod 16)` of a unit index `w` below 50 names the packed row of `w` and the same batch row. -/
theorem unit_word (w : BitVec 32) (hw : w.toNat < 50) (p : Fin 50) (q : Fin 16) :
    (IntOp.addi (IntOp.muli w 16#32) (IntOp.andi (BitVec.ofNat 32 (p.val * 16 + q.val)) 15#32)).toNat
      = w.toNat * 16 + q.val := by
  have h1 : (IntOp.andi (BitVec.ofNat 32 (p.val * 16 + q.val)) 15#32).toNat = q.val := by
    show (BitVec.ofNat 32 (p.val * 16 + q.val) &&& 15#32).toNat = _
    rw [BitVec.toNat_and, BitVec.toNat_ofNat, Nat.mod_eq_of_lt (by omega)]
    show (p.val * 16 + q.val) &&& (2 ^ 4 - 1) = _
    rw [Nat.and_two_pow_sub_one_eq_mod]; omega
  show (w * 16#32 + _).toNat = _
  rw [BitVec.toNat_add, h1, BitVec.toNat_mul]
  show (w.toNat * 16 % 2 ^ 32 + q.val) % 2 ^ 32 = _
  omega

/-- The fourth store: the attacked enemy's and the gathered resource's layer, each under its mask. -/
theorem pay_unit (v0 : Vec Ideal S1x4x800 .i32) (e r : Vec Ideal S800x128 .f32)
    (be br : Vec Ideal S1x128 .f32) (p : Fin 50) (q : Fin 16) (l : Fin 128)
    (hwe : (v0 (ix3 0 2 (row p q))).toNat < 50) (hwr : (v0 (ix3 0 3 (row p q))).toNat < 50) :
    k0_pay1 (F := Ideal) (k0_pay5 v0) (k0_pay6 v0) (k0_pay12 v0) (k0_pay13 v0) e r (k0_pay20) be br (ix3 p q l)
      = ind (v0 (ix3 0 0 (row p q)) = 2#32) * (e (ix2 (row (pick 50 (v0 (ix3 0 2 (row p q)))) q) l) + be (ix2 0 l))
        + ind (v0 (ix3 0 0 (row p q)) = 1#32) * (r (ix2 (row (pick 50 (v0 (ix3 0 3 (row p q)))) q) l) + br (ix2 0 l)) := by
  pointwise [k0_pay1, k0_pay5, k0_pay6, k0_pay12, k0_pay13, k0_pay20, k0_pay3, k0_pay2]
  simp only [sitofp_eq]
  have he := unit_word _ hwe p q
  have hr := unit_word _ hwr p q
  have he' := (show _ < 800 by rw [he]; omega : (_ : BitVec 32).toNat < 800)
  have hr' := (show _ < 800 by rw [hr]; omega : (_ : BitVec 32).toNat < 800)
  have e1 : (⟨_, he'⟩ : Fin 800) = row (pick 50 (v0 (ix3 0 2 (row p q)))) q := by
    rw [pick_eq hwe]; exact Fin.ext he
  have e2 : (⟨_, hr'⟩ : Fin 800) = row (pick 50 (v0 (ix3 0 3 (row p q)))) q := by
    rw [pick_eq hwr]; exact Fin.ext hr
  have A := sum_oneHot_mul (by norm_num) _ he' (ind (v0 (ix3 0 0 (row p q)) = 2#32)) fun x => e (ix2 x l)
  have B := sum_oneHot_mul (by norm_num) _ hr' (ind (v0 (ix3 0 0 (row p q)) = 1#32)) fun x => r (ix2 x l)
  rw [e1] at A
  rw [e2] at B
  rw [ind_mul_add, ind_mul_add]
  exact congrArg₂ (· + ·) (congrArg₂ (· + ·) A (Fin.sum_univ_one _)) (congrArg₂ (· + ·) B (Fin.sum_univ_one _))

end Cert.KernelIdeal.Block
end
-- ==== Proof.HostArrays.lean ====
/-
  What the arrays hold when the kernel region is entered: the packed integer and coordinate blocks, the transposed
  features and weight, and the reshaped scales and biases, each read at coordinates of the argument arrays.
-/
module

public import proofs.«01_k».proof.Proof.Block

@[expose] public section

set_option maxRecDepth 16384

noncomputable section

namespace Cert.KernelIdeal.HostArrays

open Cert.KernelIdeal Cert.KernelIdeal.Gen Cert.KernelIdeal.Block Cert.ActionEmb
open Idealize.ShloMosaic Idealize.ShloMosaic.TcCoe Idealize.ShloMosaic.Tactic Idealize.SL Idealize.SL.Sem

variable (m : (ℓ : Loc nD τ sig) → Buf (Elt Ideal) ℓ) (c : Dev nD)

/-- The batch row that grid point `t` and in-block row `q` name. -/
abbrev brow (t : Fin 64) (q : Fin 16) : Fin 1024 := ⟨t.val * 16 + q.val, by omega⟩

/-- The packed row of `p`, `q` comes from the in-block row `q` of the block. -/
theorem brow_row (t : Fin 64) (p : Fin 50) (q : Fin 16) (h) :
    (⟨t.val * 16 + (p.val * 16 + q.val) % 16, h⟩ : Fin 1024) = brow t q := Fin.ext (by show t.val * 16 + (p.val * 16 + q.val) % 16 = t.val * 16 + q.val; omega)

/-- … and from position `p`. -/
theorem pos_row (p : Fin 50) (q : Fin 16) (h) : (⟨(p.val * 16 + q.val) / 16, h⟩ : Fin 50) = p :=
  Fin.ext (by show _ / 16 = _; omega)

set_option backward.isDefEq.respectTransparency false in
/-- The packed integer block holds the commands in its first plane. -/
theorem v11_at0 (t : Fin 64) (p : Fin 50) (q : Fin 16) :
    V m c main_v11 (ix3 t (0 : Fin 4) (row p q)) = m ((c : Thread nD τ).loc main_arg1) (ix2 (brow t q) p) := by
  show StableHlo.after hostOps0 _ (Proc.devRef .tc main_v11) _ = _
  after_results
  pointwise
  refine (congrFun (?_ : _ = broadcastInDim S1x1024x50 ![1, 2] bcast_S1024x50_S1x1024x50_1_2 (m ((c : Thread nD τ).loc main_arg1))) _).trans ?_
  · after_results
  pointwise
  exact congrArg₂ (fun i j => m ((c : Thread nD τ).loc main_arg1) (ix2 i j)) (brow_row t p q _) (pos_row p q _)

set_option backward.isDefEq.respectTransparency false in
/-- The target types are its second plane. -/
theorem v11_at1 (t : Fin 64) (p : Fin 50) (q : Fin 16) :
    V m c main_v11 (ix3 t (1 : Fin 4) (row p q)) = m ((c : Thread nD τ).loc main_arg2) (ix2 (brow t q) p) := by
  show StableHlo.after hostOps0 _ (Proc.devRef .tc main_v11) _ = _
  after_results
  pointwise
  refine (congrFun (?_ : _ = broadcastInDim S1x1024x50 ![1, 2] bcast_S1024x50_S1x1024x50_1_2 (m ((c : Thread nD τ).loc main_arg2))) _).trans ?_
  · after_results
  pointwise
  exact congrArg₂ (fun i j => m ((c : Thread nD τ).loc main_arg2) (ix2 i j)) (brow_row t p q _) (pos_row p q _)

set_option backward.isDefEq.respectTransparency false in
/-- The attacked enemies' indices are its third plane. -/
theorem v11_at2 (t : Fin 64) (p : Fin 50) (q : Fin 16) :
    V m c main_v11 (ix3 t (2 : Fin 4) (row p q)) = m ((c : Thread nD τ).loc main_arg5) (ix2 (brow t q) p) := by
  show StableHlo.after hostOps0 _ (Proc.devRef .tc main_v11) _ = _
  after_results
  pointwise
  refine (congrFun (?_ : _ = broadcastInDim S1x1024x50 ![1, 2] bcast_S1024x50_S1x1024x50_1_2 (m ((c : Thread nD τ).loc main_arg5))) _).trans ?_
  · after_results
  pointwise
  exact congrArg₂ (fun i j => m ((c : Thread nD τ).loc main_arg5) (ix2 i j)) (brow_row t p q _) (pos_row p q _)

set_option backward.isDefEq.respectTransparency false in
/-- The gathered resources' indices are its fourth plane. -/
theorem v11_at3 (t : Fin 64) (p : Fin 50) (q : Fin 16) :
    V m c main_v11 (ix3 t (3 : Fin 4) (row p q)) = m ((c : Thread nD τ).loc main_arg6) (ix2 (brow t q) p) := by
  show StableHlo.after hostOps0 _ (Proc.devRef .tc main_v11) _ = _
  after_results
  pointwise
  refine (congrFun (?_ : _ = broadcastInDim S1x1024x50 ![1, 2] bcast_S1024x50_S1x1024x50_1_2 (m ((c : Thread nD τ).loc main_arg6))) _).trans ?_
  · after_results
  pointwise
  exact congrArg₂ (fun i j => m ((c : Thread nD τ).loc main_arg6) (ix2 i j)) (brow_row t p q _) (pos_row p q _)

set_option backward.isDefEq.respectTransparency false in
/-- The packed coordinate block holds the first coordinates in its first plane. -/
theorem v15_at0 (t : Fin 64) (p : Fin 50) (q : Fin 16) :
    V m c main_v15 (ix3 t (0 : Fin 2) (row p q)) = m ((c : Thread nD τ).loc main_arg3) (ix2 (brow t q) p) := by
  show StableHlo.after hostOps0 _ (Proc.devRef .tc main_v15) _ = _
  after_results
  pointwise
  exact congrArg₂ (fun i j => m ((c : Thread nD τ).loc main_arg3) (ix2 i j)) (brow_row t p q _) (pos_row p q _)

set_option backward.isDefEq.respectTransparency false in
/-- The second coordinates are its second plane. -/
theorem v15_at1 (t : Fin 64) (p : Fin 50) (q : Fin 16) :
    V m c main_v15 (ix3 t (1 : Fin 2) (row p q)) = m ((c : Thread nD τ).loc main_arg4) (ix2 (brow t q) p) := by
  show StableHlo.after hostOps0 _ (Proc.devRef .tc main_v15) _ = _
  after_results
  pointwise
  exact congrArg₂ (fun i j => m ((c : Thread nD τ).loc main_arg4) (ix2 i j)) (brow_row t p q _) (pos_row p q _)

/-- The enemy features, the unit axis first. -/
theorem v16_at (p : Fin 50) (b : Fin 1024) (k : Fin 256) :
    V m c main_v16 (ix3 p b k) = m ((c : Thread nD τ).loc main_arg7) (ix3 b p k) := by
  show StableHlo.after hostOps0 _ (Proc.devRef .tc main_v16) _ = _
  after_results
  pointwise

/-- The resource features, the unit axis first. -/
theorem v17_at (p : Fin 50) (b : Fin 1024) (k : Fin 256) :
    V m c main_v17 (ix3 p b k) = m ((c : Thread nD τ).loc main_arg8) (ix3 b p k) := by
  show StableHlo.after hostOps0 _ (Proc.devRef .tc main_v17) _ = _
  after_results
  pointwise

/-- The position layer's direction, transposed. -/
theorem v18_at (k : Fin 2) (l : Fin 128) :
    V m c main_v18 (ix2 k l) = m ((c : Thread nD τ).loc main_arg11) (ix2 l k) := by
  show StableHlo.after hostOps0 _ (Proc.devRef .tc main_v18) _ = _
  after_results
  pointwise

/-- A layer's scale as a one-by-one array. -/
theorem v19_at :
    V m c main_v19 (ix2 (0 : Fin 1) (0 : Fin 1)) = m ((c : Thread nD τ).loc main_arg12) ix0 := by
  show StableHlo.after hostOps0 _ (Proc.devRef .tc main_v19) _ = _
  after_results
  pointwise

/-- A layer's scale as a one-by-one array. -/
theorem v21_at :
    V m c main_v21 (ix2 (0 : Fin 1) (0 : Fin 1)) = m ((c : Thread nD τ).loc main_arg15) ix0 := by
  show StableHlo.after hostOps0 _ (Proc.devRef .tc main_v21) _ = _
  after_results
  pointwise

/-- A layer's scale as a one-by-one array. -/
theorem v23_at :
    V m c main_v23 (ix2 (0 : Fin 1) (0 : Fin 1)) = m ((c : Thread nD τ).loc main_arg18) ix0 := by
  show StableHlo.after hostOps0 _ (Proc.devRef .tc main_v23) _ = _
  after_results
  pointwise

/-- A layer's bias as a one-row array. -/
theorem v20_at (l : Fin 128) :
    V m c main_v20 (ix2 (0 : Fin 1) l) = m ((c : Thread nD τ).loc main_arg13) (ix1 l) := by
  show StableHlo.after hostOps0 _ (Proc.devRef .tc main_v20) _ = _
  after_results
  pointwise

/-- A layer's bias as a one-row array. -/
theorem v22_at (l : Fin 128) :
    V m c main_v22 (ix2 (0 : Fin 1) l) = m ((c : Thread nD τ).loc main_arg16) (ix1 l) := by
  show StableHlo.after hostOps0 _ (Proc.devRef .tc main_v22) _ = _
  after_results
  pointwise

/-- A layer's bias as a one-row array. -/
theorem v24_at (l : Fin 128) :
    V m c main_v24 (ix2 (0 : Fin 1) l) = m ((c : Thread nD τ).loc main_arg19) (ix1 l) := by
  show StableHlo.after hostOps0 _ (Proc.devRef .tc main_v24) _ = _
  after_results
  pointwise

end Cert.KernelIdeal.HostArrays
end
-- ==== Proof.KernelValue.lean ====
/-
  What the kernel's arrays hold: one grid point's block is the result of its sixteen batch rows, the blocks cover the
  region's output, and the host line after the region transposes it to the result array.
-/
module

public import proofs.«01_k».proof.Proof.HostArrays
public import Idealize.ShloMosaic.Lib.Pipeline.ValueKit.Geometry
public import Idealize.ShloMosaic.Lib.Pipeline.ValueKit.Acc

@[expose] public section

set_option maxRecDepth 16384

noncomputable section

namespace Cert.KernelIdeal.KValue

open Cert.KernelIdeal Cert.KernelIdeal.Gen Cert.KernelIdeal.Block Cert.KernelIdeal.HostArrays Cert.ActionEmb
open Idealize.ShloMosaic Idealize.ShloMosaic.TcCoe Idealize.ShloMosaic.Tactic Idealize.SL Idealize.SL.Sem

variable (m : (ℓ : Loc nD τ sig) → Buf (Elt Ideal) ℓ) (ρ : Dev nD → PrngReg) (c : Dev nD)

/-- The kernel program's argument arrays at coordinates. -/
def args : Args where
  cmd b p := m ((c : Thread nD τ).loc main_arg1) (ix2 b p)
  tgt b p := m ((c : Thread nD τ).loc main_arg2) (ix2 b p)
  x b p := m ((c : Thread nD τ).loc main_arg3) (ix2 b p)
  y b p := m ((c : Thread nD τ).loc main_arg4) (ix2 b p)
  attack b p := m ((c : Thread nD τ).loc main_arg5) (ix2 b p)
  gather b p := m ((c : Thread nD τ).loc main_arg6) (ix2 b p)
  ef b p k := m ((c : Thread nD τ).loc main_arg7) (ix3 b p k)
  rf b p k := m ((c : Thread nD τ).loc main_arg8) (ix3 b p k)
  cemb i l := m ((c : Thread nD τ).loc main_arg9) (ix2 i l)
  temb i l := m ((c : Thread nD τ).loc main_arg10) (ix2 i l)
  vxy l k := m ((c : Thread nD τ).loc main_arg11) (ix2 l k)
  gxy := m ((c : Thread nD τ).loc main_arg12) ix0
  bxy l := m ((c : Thread nD τ).loc main_arg13) (ix1 l)
  ve l k := m ((c : Thread nD τ).loc main_arg14) (ix2 l k)
  ge := m ((c : Thread nD τ).loc main_arg15) ix0
  be l := m ((c : Thread nD τ).loc main_arg16) (ix1 l)
  vr l k := m ((c : Thread nD τ).loc main_arg17) (ix2 l k)
  gr := m ((c : Thread nD τ).loc main_arg18) ix0
  br l := m ((c : Thread nD τ).loc main_arg19) (ix1 l)

/-! ## One block -/

/-- The sixteen windows' contents at grid point `t`, as a statement about the arguments. -/
structure Blocks (A : Args) (t : Fin 64) (x0 : Vec Ideal S1x4x800 .i32) (x1 : Vec Ideal S1x2x800 .f32)
    (x2 x3 : Vec Ideal S50x16x256 .f32) (x4 : Vec Ideal S7x128 .f32) (x5 : Vec Ideal S1000x128 .f32)
    (x6 : Vec Ideal S2x128 .f32) (x7 : Vec Ideal S1x1 .f32) (x8 : Vec Ideal S1x128 .f32) (x9 : Vec Ideal S128x256 .f32)
    (x10 : Vec Ideal S1x1 .f32) (x11 : Vec Ideal S1x128 .f32) (x12 : Vec Ideal S128x256 .f32)
    (x13 : Vec Ideal S1x1 .f32) (x14 : Vec Ideal S1x128 .f32) : Prop where
  cmd : ∀ p q, x0 (ix3 0 0 (row p q)) = A.cmd (brow t q) p
  tgt : ∀ p q, x0 (ix3 0 1 (row p q)) = A.tgt (brow t q) p
  attack : ∀ p q, x0 (ix3 0 2 (row p q)) = A.attack (brow t q) p
  gather : ∀ p q, x0 (ix3 0 3 (row p q)) = A.gather (brow t q) p
  x : ∀ p q, x1 (ix3 0 0 (row p q)) = A.x (brow t q) p
  y : ∀ p q, x1 (ix3 0 1 (row p q)) = A.y (brow t q) p
  ef : ∀ p q k, x2 (ix3 p q k) = A.ef (brow t q) p k
  rf : ∀ p q k, x3 (ix3 p q k) = A.rf (brow t q) p k
  cemb : (fun i l => x4 (ix2 i l)) = A.cemb
  temb : (fun i l => x5 (ix2 i l)) = A.temb
  vxy : (fun l k => x6 (ix2 k l)) = A.vxy
  gxy : x7 (ix2 0 0) = A.gxy
  bxy : (fun l => x8 (ix2 0 l)) = A.bxy
  ve : (fun l k => x9 (ix2 l k)) = A.ve
  ge : x10 (ix2 0 0) = A.ge
  be : ∀ l, x11 (ix2 0 l) = A.be l
  vr : (fun l k => x12 (ix2 l k)) = A.vr
  gr : x13 (ix2 0 0) = A.gr
  br : ∀ l, x14 (ix2 0 l) = A.br l

theorem zero2 : ∀ a : Fin 2, (![0, 0] : Fin 2 → ℕ) a = 0 := by decide
theorem zero3 : ∀ a : Fin 3, (![0, 0, 0] : Fin 3 → ℕ) a = 0 := by decide

theorem ld_0 (X : Vec Ideal S1x4x800 .i32) : View.ld X r0_0 = X := View.ld_unit_lit' _ X zero3
theorem ld_1 (X : Vec Ideal S1x2x800 .f32) : View.ld X r0_1 = X := View.ld_unit_lit' _ X zero3
theorem ld_2 (X : Vec Ideal S7x128 .f32) : View.ld X r0_2 = X := View.ld_unit_lit' _ X zero2
theorem ld_4 (X : Vec Ideal S1000x128 .f32) : View.ld X r0_4 = X := View.ld_unit_lit' _ X zero2
theorem ld_6 (X : Vec Ideal S2x128 .f32) : View.ld X r0_6 = X := View.ld_unit_lit' _ X zero2
theorem ld_7 (X : Vec Ideal S1x1 .f32) : View.ld X r0_7 = X := View.ld_unit_lit' _ X zero2
theorem ld_8 (X : Vec Ideal S1x128 .f32) : View.ld X r0_8 = X := View.ld_unit_lit' _ X zero2
theorem ld_10 (X : Vec Ideal S128x256 .f32) : View.ld X r0_10 = X := View.ld_unit_lit' _ X zero2
theorem ld_11 (X : Vec Ideal S50x16x256 .f32) : View.ld X r0_11 = X := View.ld_unit_lit' _ X zero3

/-- The store rectangle at lane offset `o` places the payload's element `(p, q, l)` at lane `o + l`. -/
theorem emb_lane (o : ℕ) (inb : ∀ a, (![0, 0, o] : Fin 3 → ℕ) a + S50x16x128.size a ≤ S50x16x512.size a)
    (p : Fin 50) (q : Fin 16) (l : Fin 128) (h : o + l.val < 512) :
    (Rect.unit (s := S50x16x512) ![0, 0, o] S50x16x128.size inb).emb (ix3 p q l) = ix3 p q (⟨o + l.val, h⟩ : Fin 512) := by
  funext a
  apply Fin.ext
  fin_cases a
  · show 0 + 1 * p.val = p.val; omega
  · show 0 + 1 * q.val = q.val; omega
  · show o + 1 * l.val = o + l.val; omega

/-- The block of grid point `t`: the result of its batch rows. -/
def blockOut (A : Args) (t : Fin 64) : Vec Ideal S50x16x512 .f32 := fun y => result A (brow t (y 1)) (y 0) (y 2)

section Pieces

variable {A : Args} (hA : A.Ok) {t : Fin 64} {x0 : Vec Ideal S1x4x800 .i32} {x1 : Vec Ideal S1x2x800 .f32}
    {x2 x3 : Vec Ideal S50x16x256 .f32} {x4 : Vec Ideal S7x128 .f32} {x5 : Vec Ideal S1000x128 .f32}
    {x6 : Vec Ideal S2x128 .f32} {x7 : Vec Ideal S1x1 .f32} {x8 : Vec Ideal S1x128 .f32} {x9 : Vec Ideal S128x256 .f32}
    {x10 : Vec Ideal S1x1 .f32} {x11 : Vec Ideal S1x128 .f32} {x12 : Vec Ideal S128x256 .f32}
    {x13 : Vec Ideal S1x1 .f32} {x14 : Vec Ideal S1x128 .f32}
    (h : Blocks A t x0 x1 x2 x3 x4 x5 x6 x7 x8 x9 x10 x11 x12 x13 x14) (p : Fin 50) (q : Fin 16) (l : Fin 128)

include hA h

theorem piece_cmd : k0_pay15 (F := Ideal) (k0_pay14 x0 x4) (ix3 p q l)
    = cmdPiece A.cemb (A.cmd (brow t q) p) l := by
  rw [pay_cmd _ _ p q l (by rw [h.cmd]; exact hA.cmd _ _), h.cmd, h.cemb]

theorem piece_tgt : k0_pay16 (F := Ideal) (k0_pay4 x0) (k0_pay10 x0) x5 (ix3 p q l)
    = tgtPiece A.temb (A.cmd (brow t q) p) (A.tgt (brow t q) p) l := by
  rw [pay_tgt _ _ p q l (by rw [h.tgt]; exact hA.tgt _ _), h.cmd, h.tgt, h.temb]

theorem piece_xy : k0_pay17 (F := Ideal) (k0_pay8 x1) (k0_pay9 x1) (k0_pay11 x0) x6 x7 x8 (ix3 p q l)
    = xyPiece A.vxy A.gxy A.bxy (A.cmd (brow t q) p) (A.x (brow t q) p) (A.y (brow t q) p) l := by
  rw [pay_xy _ _ _ _ _ p q l (by rw [h.vxy]; exact hA.vxy), h.cmd, h.x, h.y, h.vxy, h.gxy, h.bxy]

theorem proj_e (i : Fin 50) : k0_pay18 (F := Ideal) x9 x10 x2 (ix2 (row i q) l)
    = ∑ k, A.ef (brow t q) i k * weight A.ve A.ge l k := by
  rw [pay_proj_e _ _ _ i q l (by rw [h.ge]; exact hA.ge) (fun k => by rw [h.ef]; exact hA.ef _ _ _) (by rw [h.ve]; exact hA.ve),
    h.ve, h.ge]
  exact Finset.sum_congr rfl fun k _ => by rw [h.ef]

theorem proj_r (i : Fin 50) : k0_pay19 (F := Ideal) x12 x13 x3 (ix2 (row i q) l)
    = ∑ k, A.rf (brow t q) i k * weight A.vr A.gr l k := by
  rw [pay_proj_r _ _ _ i q l (by rw [h.gr]; exact hA.gr) (fun k => by rw [h.rf]; exact hA.rf _ _ _) (by rw [h.vr]; exact hA.vr),
    h.vr, h.gr]
  exact Finset.sum_congr rfl fun k _ => by rw [h.rf]

theorem piece_unit : k0_pay1 (F := Ideal) (k0_pay5 x0) (k0_pay6 x0) (k0_pay12 x0) (k0_pay13 x0) (k0_pay18 x9 x10 x2)
    (k0_pay19 x12 x13 x3) k0_pay20 x11 x14 (ix3 p q l) = unitAt A (brow t q) p l := by
  rw [pay_unit _ _ _ _ _ p q l (by rw [h.attack]; exact hA.attack _ _) (by rw [h.gather]; exact hA.gather _ _),
    h.cmd, h.attack, h.gather, h.be, h.br, proj_e hA h, proj_r hA h]
  rfl

/-- The block the body leaves is the result of the point's batch rows. -/
theorem out_eq (y : S50x16x512.Idx) :
    out0_15 (F := Ideal) x0 x1 x2 x3 x4 x5 x6 x7 x8 x9 x10 x11 x12 x13 x14 y = blockOut A t y := by
  unfold out0_15
  simp only [ld_0, ld_1, ld_2, ld_4, ld_6, ld_7, ld_8, ld_10, ld_11]
  refine View.canon_apply_of_pieces (blockOut A t) _ ?_ y (cover0_15 _ _ _ _ y)
  intro pc hpc
  simp only [List.mem_cons, List.not_mem_nil, or_false] at hpc
  rcases hpc with rfl | rfl | rfl | rfl
  · intro x
    obtain ⟨p, q, l, rfl⟩ : ∃ (p : Fin 50) (q : Fin 16) (l : Fin 128), x = ix3 p q l := ⟨x 0, x 1, x 2, eq_ix3 x⟩
    refine (piece_unit hA h p q l).trans ?_
    refine Eq.trans ?_ (congrArg (blockOut A t) (emb_lane 384 inb_S50x16x512_S50x16x128_0_0_384 p q l (by omega))).symm
    exact (result_unit A (brow t q) p l _ (by show 384 + l.val = _; omega)).symm
  · intro x
    obtain ⟨p, q, l, rfl⟩ : ∃ (p : Fin 50) (q : Fin 16) (l : Fin 128), x = ix3 p q l := ⟨x 0, x 1, x 2, eq_ix3 x⟩
    refine (piece_xy hA h p q l).trans ?_
    refine Eq.trans ?_ (congrArg (blockOut A t) (emb_lane 256 inb_S50x16x512_S50x16x128_0_0_256 p q l (by omega))).symm
    exact (result_xy A (brow t q) p l _ (by show 256 + l.val = _; omega)).symm
  · intro x
    obtain ⟨p, q, l, rfl⟩ : ∃ (p : Fin 50) (q : Fin 16) (l : Fin 128), x = ix3 p q l := ⟨x 0, x 1, x 2, eq_ix3 x⟩
    refine (piece_tgt hA h p q l).trans ?_
    refine Eq.trans ?_ (congrArg (blockOut A t) (emb_lane 128 inb_S50x16x512_S50x16x128_0_0_128 p q l (by omega))).symm
    exact (result_tgt A (brow t q) p l _ (by show 128 + l.val = _; omega)).symm
  · intro x
    obtain ⟨p, q, l, rfl⟩ : ∃ (p : Fin 50) (q : Fin 16) (l : Fin 128), x = ix3 p q l := ⟨x 0, x 1, x 2, eq_ix3 x⟩
    refine (piece_cmd hA h p q l).trans ?_
    refine Eq.trans ?_ (congrArg (blockOut A t) (emb_lane 0 inb_S50x16x512_S50x16x128_0_0_0 p q l (by omega))).symm
    exact (result_cmd A (brow t q) p l _ (by show 0 + l.val = _; omega)).symm

end Pieces

/-! ## The windows' blocks at a grid point -/

/-- A grid point as one of sixty-four. -/
abbrev pt (t : Fin cfg0.N) : Fin 64 := ⟨t.val, lt_of_lt_of_eq t.isLt N_0⟩

theorem index_0 : ∀ t : Fin cfg0.N, win0_0.index t = ![t.val, 0, 0] := (by decide +kernel : ∀ t : Fin grid0.N, _)
theorem index_1 : ∀ t : Fin cfg0.N, win0_1.index t = ![t.val, 0, 0] := (by decide +kernel : ∀ t : Fin grid0.N, _)
theorem index_2 : ∀ t : Fin cfg0.N, win0_2.index t = ![0, t.val, 0] := (by decide +kernel : ∀ t : Fin grid0.N, _)
theorem index_3 : ∀ t : Fin cfg0.N, win0_3.index t = ![0, t.val, 0] := (by decide +kernel : ∀ t : Fin grid0.N, _)
theorem index_4 : ∀ t : Fin cfg0.N, win0_4.index t = ![0, 0] := (by decide +kernel : ∀ t : Fin grid0.N, _)
theorem index_5 : ∀ t : Fin cfg0.N, win0_5.index t = ![0, 0] := (by decide +kernel : ∀ t : Fin grid0.N, _)
theorem index_6 : ∀ t : Fin cfg0.N, win0_6.index t = ![0, 0] := (by decide +kernel : ∀ t : Fin grid0.N, _)
theorem index_7 : ∀ t : Fin cfg0.N, win0_7.index t = ![0, 0] := (by decide +kernel : ∀ t : Fin grid0.N, _)
theorem index_8 : ∀ t : Fin cfg0.N, win0_8.index t = ![0, 0] := (by decide +kernel : ∀ t : Fin grid0.N, _)
theorem index_9 : ∀ t : Fin cfg0.N, win0_9.index t = ![0, 0] := (by decide +kernel : ∀ t : Fin grid0.N, _)
theorem index_10 : ∀ t : Fin cfg0.N, win0_10.index t = ![0, 0] := (by decide +kernel : ∀ t : Fin grid0.N, _)
theorem index_11 : ∀ t : Fin cfg0.N, win0_11.index t = ![0, 0] := (by decide +kernel : ∀ t : Fin grid0.N, _)
theorem index_12 : ∀ t : Fin cfg0.N, win0_12.index t = ![0, 0] := (by decide +kernel : ∀ t : Fin grid0.N, _)
theorem index_13 : ∀ t : Fin cfg0.N, win0_13.index t = ![0, 0] := (by decide +kernel : ∀ t : Fin grid0.N, _)
theorem index_14 : ∀ t : Fin cfg0.N, win0_14.index t = ![0, 0] := (by decide +kernel : ∀ t : Fin grid0.N, _)
theorem index_15 : ∀ t : Fin cfg0.N, win0_15.index t = ![0, t.val, 0] := (by decide +kernel : ∀ t : Fin grid0.N, _)

theorem iblk_0 (t : Fin cfg0.N) (k : Fin 4) (r : Fin 800) :
    iblk m c 0 t (ix3 0 k r) = V m c main_v11 (ix3 (pt t) k r) := by
  blk_simp [iblk, index_0]
  refine congrArg (V m c main_v11) ?_
  blk_ext [index_0]

theorem iblk_1 (t : Fin cfg0.N) (k : Fin 2) (r : Fin 800) :
    iblk m c 1 t (ix3 0 k r) = V m c main_v15 (ix3 (pt t) k r) := by
  blk_simp [iblk, index_1]
  refine congrArg (V m c main_v15) ?_
  blk_ext [index_1]

theorem iblk_2 (t : Fin cfg0.N) (p : Fin 50) (q : Fin 16) (k : Fin 256) :
    iblk m c 2 t (ix3 p q k) = V m c main_v16 (ix3 p (brow (pt t) q) k) := by
  blk_simp [iblk, index_2]
  refine congrArg (V m c main_v16) ?_
  blk_ext [index_2]

theorem iblk_3 (t : Fin cfg0.N) (p : Fin 50) (q : Fin 16) (k : Fin 256) :
    iblk m c 3 t (ix3 p q k) = V m c main_v17 (ix3 p (brow (pt t) q) k) := by
  blk_simp [iblk, index_3]
  refine congrArg (V m c main_v17) ?_
  blk_ext [index_3]

theorem iblk_4 (t : Fin cfg0.N) (i : Fin 7) (j : Fin 128) :
    iblk m c 4 t (ix2 i j) = V m c main_arg9 (ix2 i j) := by
  blk_simp [iblk, index_4]
  refine congrArg (V m c main_arg9) ?_
  blk_ext [index_4]

theorem iblk_5 (t : Fin cfg0.N) (i : Fin 1000) (j : Fin 128) :
    iblk m c 5 t (ix2 i j) = V m c main_arg10 (ix2 i j) := by
  blk_simp [iblk, index_5]
  refine congrArg (V m c main_arg10) ?_
  blk_ext [index_5]

theorem iblk_6 (t : Fin cfg0.N) (i : Fin 2) (j : Fin 128) :
    iblk m c 6 t (ix2 i j) = V m c main_v18 (ix2 i j) := by
  blk_simp [iblk, index_6]
  refine congrArg (V m c main_v18) ?_
  blk_ext [index_6]

theorem iblk_7 (t : Fin cfg0.N) (i : Fin 1) (j : Fin 1) :
    iblk m c 7 t (ix2 i j) = V m c main_v19 (ix2 i j) := by
  blk_simp [iblk, index_7]
  refine congrArg (V m c main_v19) ?_
  blk_ext [index_7]

theorem iblk_8 (t : Fin cfg0.N) (i : Fin 1) (j : Fin 128) :
    iblk m c 8 t (ix2 i j) = V m c main_v20 (ix2 i j) := by
  blk_simp [iblk, index_8]
  refine congrArg (V m c main_v20) ?_
  blk_ext [index_8]

theorem iblk_9 (t : Fin cfg0.N) (i : Fin 128) (j : Fin 256) :
    iblk m c 9 t (ix2 i j) = V m c main_arg14 (ix2 i j) := by
  blk_simp [iblk, index_9]
  refine congrArg (V m c main_arg14) ?_
  blk_ext [index_9]

theorem iblk_10 (t : Fin cfg0.N) (i : Fin 1) (j : Fin 1) :
    iblk m c 10 t (ix2 i j) = V m c main_v21 (ix2 i j) := by
  blk_simp [iblk, index_10]
  refine congrArg (V m c main_v21) ?_
  blk_ext [index_10]

theorem iblk_11 (t : Fin cfg0.N) (i : Fin 1) (j : Fin 128) :
    iblk m c 11 t (ix2 i j) = V m c main_v22 (ix2 i j) := by
  blk_simp [iblk, index_11]
  refine congrArg (V m c main_v22) ?_
  blk_ext [index_11]

theorem iblk_12 (t : Fin cfg0.N) (i : Fin 128) (j : Fin 256) :
    iblk m c 12 t (ix2 i j) = V m c main_arg17 (ix2 i j) := by
  blk_simp [iblk, index_12]
  refine congrArg (V m c main_arg17) ?_
  blk_ext [index_12]

theorem iblk_13 (t : Fin cfg0.N) (i : Fin 1) (j : Fin 1) :
    iblk m c 13 t (ix2 i j) = V m c main_v23 (ix2 i j) := by
  blk_simp [iblk, index_13]
  refine congrArg (V m c main_v23) ?_
  blk_ext [index_13]

theorem iblk_14 (t : Fin cfg0.N) (i : Fin 1) (j : Fin 128) :
    iblk m c 14 t (ix2 i j) = V m c main_v24 (ix2 i j) := by
  blk_simp [iblk, index_14]
  refine congrArg (V m c main_v24) ?_
  blk_ext [index_14]

/-- The fifteen input windows hold, at every grid point, what `Blocks` says of the arguments. -/
theorem blocks (t : Fin cfg0.N) : Blocks (args m c) (pt t) (iblk m c 0 t) (iblk m c 1 t) (iblk m c 2 t) (iblk m c 3 t)
    (iblk m c 4 t) (iblk m c 5 t) (iblk m c 6 t) (iblk m c 7 t) (iblk m c 8 t) (iblk m c 9 t) (iblk m c 10 t)
    (iblk m c 11 t) (iblk m c 12 t) (iblk m c 13 t) (iblk m c 14 t) where
  cmd p q := (iblk_0 m c t 0 _).trans (v11_at0 m c _ p q)
  tgt p q := (iblk_0 m c t 1 _).trans (v11_at1 m c _ p q)
  attack p q := (iblk_0 m c t 2 _).trans (v11_at2 m c _ p q)
  gather p q := (iblk_0 m c t 3 _).trans (v11_at3 m c _ p q)
  x p q := (iblk_1 m c t 0 _).trans (v15_at0 m c _ p q)
  y p q := (iblk_1 m c t 1 _).trans (v15_at1 m c _ p q)
  ef p q k := (iblk_2 m c t p q k).trans (v16_at m c p _ k)
  rf p q k := (iblk_3 m c t p q k).trans (v17_at m c p _ k)
  cemb := funext fun i => funext fun l => (iblk_4 m c t i l).trans (congrFun (V_main_arg9 m c) _)
  temb := funext fun i => funext fun l => (iblk_5 m c t i l).trans (congrFun (V_main_arg10 m c) _)
  vxy := funext fun l => funext fun k => (iblk_6 m c t k l).trans (v18_at m c k l)
  gxy := (iblk_7 m c t 0 0).trans (v19_at m c)
  bxy := funext fun l => (iblk_8 m c t 0 l).trans (v20_at m c l)
  ve := funext fun l => funext fun k => (iblk_9 m c t l k).trans (congrFun (V_main_arg14 m c) _)
  ge := (iblk_10 m c t 0 0).trans (v21_at m c)
  be l := (iblk_11 m c t 0 l).trans (v22_at m c l)
  vr := funext fun l => funext fun k => (iblk_12 m c t l k).trans (congrFun (V_main_arg17 m c) _)
  gr := (iblk_13 m c t 0 0).trans (v23_at m c)
  br l := (iblk_14 m c t 0 l).trans (v24_at m c l)

/-! ## The region's output and the result array -/

/-- The region's output: position first. -/
def G25 (A : Args) : Vec Ideal S50x1024x512 .f32 := fun i => result A (i 1) (i 0) (i 2)

/-- After the region its output array holds the result, position first. -/
theorem arr_eq (hA : (args m c).Ok) : (dats m 0 c).arrAt 15 cfg0.N = G25 (args m c) := by
  refine (dats m 0 c).arrAt_eq_of_covers 15 _ (by decide +kernel) fun t hf y => ?_
  blk_simp
  rw [after0_15]
  refine (out_eq hA (blocks m c t) y).trans ?_
  have e : (win0_15.blk t).view.emb y = ix3 (y 0) (brow (pt t) (y 1)) (y 2) := by
    blk_ext [index_15]
  rw [e]
  rfl

/-- The result array: the region's output transposed. -/
def G26 (A : Args) : Vec Ideal S1024x50x512 .f32 := fun i => result A (i 0) (i 1) (i 2)

/-- The windows' arrays are pairwise distinct buffers. -/
theorem arr_inj : Function.Injective (Pipeline.arrRef spec0) := by decide

theorem tail_eq (hA : (args m c).Ok) :
    Pipeline.afterTail₀ cfgs (dats m) 0 (V0 m) [hostOps1] c main_v26 = G26 (args m c) := by
  unfold Pipeline.afterTail₀
  show StableHlo.after hostOps1 _ (Proc.devRef .tc main_v26) = _
  after_results
  have e := (Pipeline.withArrays_arr spec0 arr_inj c (V0 m c) (fun w => (dats m 0 c).arrAt w cfg0.N) 15).trans
    (arr_eq m c hA)
  refine (congrArg (fun X => transpose S1024x50x512 [1, 0, 2] X transposes_S50x1024x512_S1024x50x512_1_0_2) e).trans ?_
  funext i
  obtain ⟨b, p, l, rfl⟩ : ∃ (b : Fin 1024) (p : Fin 50) (l : Fin 512), i = ix3 b p l := ⟨i 0, i 1, i 2, eq_ix3 i⟩
  pointwise
  rfl

/-- From every memory the claim allows, every run ends with the result array at `G26` of the arguments and the
    argument arrays unchanged. -/
theorem run (hA : ∀ c, (args m c).Ok) :
    θ_run defs (onTc (τ := τ) (main (F := Ideal))) ⟨m, fun _ => 0, ρ⟩ (fun r => ∀ c : Dev nD,
      r.2.mem ((c.tc : Thread nD τ).loc main_v26) = G26 (args m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  (θ_run defs _ _).mono (fun _ h c =>
    have rest := fun b hb => Pipeline.FramePost.rest_eq h c b hb
    ⟨(rest main_v26 (Pipeline.mem_restRefs_of main_v26 (by decide) (by decide))).trans (tail_eq m c (hA c)),
      (rest main_arg0 (Pipeline.mem_restRefs_of main_arg0 (by decide) (by decide))).trans (W_main_arg0 m (dats m) c),
      (rest main_arg1 (Pipeline.mem_restRefs_of main_arg1 (by decide) (by decide))).trans (W_main_arg1 m (dats m) c),
      (rest main_arg2 (Pipeline.mem_restRefs_of main_arg2 (by decide) (by decide))).trans (W_main_arg2 m (dats m) c),
      (rest main_arg3 (Pipeline.mem_restRefs_of main_arg3 (by decide) (by decide))).trans (W_main_arg3 m (dats m) c),
      (rest main_arg4 (Pipeline.mem_restRefs_of main_arg4 (by decide) (by decide))).trans (W_main_arg4 m (dats m) c),
      (rest main_arg5 (Pipeline.mem_restRefs_of main_arg5 (by decide) (by decide))).trans (W_main_arg5 m (dats m) c),
      (rest main_arg6 (Pipeline.mem_restRefs_of main_arg6 (by decide) (by decide))).trans (W_main_arg6 m (dats m) c),
      (rest main_arg7 (Pipeline.mem_restRefs_of main_arg7 (by decide) (by decide))).trans (W_main_arg7 m (dats m) c),
      (rest main_arg8 (Pipeline.mem_restRefs_of main_arg8 (by decide) (by decide))).trans (W_main_arg8 m (dats m) c),
      (Pipeline.FramePost.in_eq h c 4 rfl).trans ((A_eq m c 4).trans (V_main_arg9 m c)),
      (Pipeline.FramePost.in_eq h c 5 rfl).trans ((A_eq m c 5).trans (V_main_arg10 m c)),
      (rest main_arg11 (Pipeline.mem_restRefs_of main_arg11 (by decide) (by decide))).trans (W_main_arg11 m (dats m) c),
      (rest main_arg12 (Pipeline.mem_restRefs_of main_arg12 (by decide) (by decide))).trans (W_main_arg12 m (dats m) c),
      (rest main_arg13 (Pipeline.mem_restRefs_of main_arg13 (by decide) (by decide))).trans (W_main_arg13 m (dats m) c),
      (Pipeline.FramePost.in_eq h c 9 rfl).trans ((A_eq m c 9).trans (V_main_arg14 m c)),
      (rest main_arg15 (Pipeline.mem_restRefs_of main_arg15 (by decide) (by decide))).trans (W_main_arg15 m (dats m) c),
      (rest main_arg16 (Pipeline.mem_restRefs_of main_arg16 (by decide) (by decide))).trans (W_main_arg16 m (dats m) c),
      (Pipeline.FramePost.in_eq h c 12 rfl).trans ((A_eq m c 12).trans (V_main_arg17 m c)),
      (rest main_arg18 (Pipeline.mem_restRefs_of main_arg18 (by decide) (by decide))).trans (W_main_arg18 m (dats m) c),
      (rest main_arg19 (Pipeline.mem_restRefs_of main_arg19 (by decide) (by decide))).trans (W_main_arg19 m (dats m) c)⟩) (run_main m ρ)

end Cert.KernelIdeal.KValue
end
-- ==== Proof.RefValue.lean ====
/-
  What the reference computes: its result array at coordinates is the same four pieces of the argument arrays.
-/
module

public import proofs.«01_k».proof.Proof.Gen.ReferenceIdeal.Run
public import proofs.«01_k».proof.Proof.Gen.ReferenceIdeal.Read
public import proofs.«01_k».proof.Proof.Spec
public import Idealize.ShloMosaic.Lib.Tactic.WordOmega
public import Idealize.ShloMosaic.Lib.WordCmp

@[expose] public section

set_option maxRecDepth 16384

noncomputable section

namespace Cert.ReferenceIdeal.RValue

open Cert.ReferenceIdeal Cert.ReferenceIdeal.Gen Cert.ReferenceIdeal.Read Cert.ActionEmb
open Idealize.ShloMosaic Idealize.ShloMosaic.TcCoe Idealize.ShloMosaic.Tactic Idealize.SL Idealize.SL.Sem

/-! ## Index words in range -/

theorem slt_zero {w : BitVec 32} (h : w.toNat < 2 ^ 31) : IntOp.cmpi .slt w 0#32 = 0#1 := by
  word_omega

theorem sge_zero {w : BitVec 32} (h : w.toNat < 2 ^ 31) : IntOp.cmpi .sge w 0#32 = 1#1 := by
  word_omega

theorem sle_of {w n : BitVec 32} (h : w.toNat ≤ n.toNat) (hn : n.toNat < 2 ^ 31) : IntOp.cmpi .sle w n = 1#1 := by
  word_omega

theorem clamp {w : BitVec 32} {n : ℕ} (h : w.toNat < n) (hn : n ≤ 2 ^ 31) : min w.toInt.toNat (n - 1) = w.toNat := by
  rw [BitVec.toInt_eq_toNat_of_lt (by omega)]
  omega

/-- A fold of `and` over one element. -/
theorem fold_one (f : Fin 1 → BitVec 1) : Finset.fold IntOp.andi 1#1 f Finset.univ = IntOp.andi (f 0) 1#1 := by
  rw [Finset.univ_unique, Finset.fold_singleton]; rfl

/-- A row taken from a table of 7 rows. -/
theorem take_7 (x : Vec Ideal S7x128 .f32) (idx : IVec S1024x50x1 32) (w : BitVec 32) (b : Fin 1024) (p : Fin 50) (l : Fin 128)
    (hi : idx (ix3 b p 0) = w) (h : w.toNat < 7) :
    Host.gather gather_S7x128_S1024x50x1_S1024x50x128_2_0_n_n_0_2_1128 x idx (ix3 b p l)
      = x (ix2 (pick 7 w) l) := by
  rw [pick_eq h]
  unfold Host.gather
  refine congrArg x (funext fun a => Fin.ext ?_)
  match a with
  | ⟨0, _⟩ =>
    show gather_S7x128_S1024x50x1_S1024x50x128_2_0_n_n_0_2_1128.start (ix3 b p l) idx (0 : Fin 2)
      + gather_S7x128_S1024x50x1_S1024x50x128_2_0_n_n_0_2_1128.batchCoord (ix3 b p l) (0 : Fin 2)
      + gather_S7x128_S1024x50x1_S1024x50x128_2_0_n_n_0_2_1128.offCoord (ix3 b p l) (0 : Fin 2) = w.toNat
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S7x128_S1024x50x1_S1024x50x128_2_0_n_n_0_2_1128.startIndexMap from List.mem_singleton.mpr rfl)]
    have hsi : gather_S7x128_S1024x50x1_S1024x50x128_2_0_n_n_0_2_1128.siIdx (ix3 b p l)
        ⟨gather_S7x128_S1024x50x1_S1024x50x128_2_0_n_n_0_2_1128.startIndexMap.idxOf (0 : Fin 2), List.idxOf_lt_length_iff.2 (List.mem_singleton.mpr rfl)⟩ = ix3 b p 0 := by
      funext k
      match k with
      | ⟨0, _⟩ => rfl
      | ⟨1, _⟩ => rfl
      | ⟨2, _⟩ => rfl
    refine (congrArg (fun j => min (idx j).toInt.toNat (7 - 1)) hsi).trans ?_
    rw [hi]
    exact clamp h (by norm_num)
  | ⟨1, _⟩ =>
    show gather_S7x128_S1024x50x1_S1024x50x128_2_0_n_n_0_2_1128.start (ix3 b p l) idx (1 : Fin 2)
      + gather_S7x128_S1024x50x1_S1024x50x128_2_0_n_n_0_2_1128.batchCoord (ix3 b p l) (1 : Fin 2)
      + gather_S7x128_S1024x50x1_S1024x50x128_2_0_n_n_0_2_1128.offCoord (ix3 b p l) (1 : Fin 2) = l.val
    rw [GatherDims.batchCoord_eq_zero _ _ _ List.not_mem_nil]
    simp only [Nat.add_zero]
    unfold GatherDims.start GatherDims.offCoord
    rw [dif_neg (show (1 : Fin 2) ∉ gather_S7x128_S1024x50x1_S1024x50x128_2_0_n_n_0_2_1128.startIndexMap by simp [gather_S7x128_S1024x50x1_S1024x50x128_2_0_n_n_0_2_1128]),
      dif_pos ((GatherDims.mem_sKept _ _).mpr ⟨by simp [gather_S7x128_S1024x50x1_S1024x50x128_2_0_n_n_0_2_1128], List.not_mem_nil⟩), Nat.zero_add]
    rfl

/-- A row taken from a table of 1000 rows. -/
theorem take_1000 (x : Vec Ideal S1000x128 .f32) (idx : IVec S1024x50x1 32) (w : BitVec 32) (b : Fin 1024) (p : Fin 50) (l : Fin 128)
    (hi : idx (ix3 b p 0) = w) (h : w.toNat < 1000) :
    Host.gather gather_S1000x128_S1024x50x1_S1024x50x128_2_0_n_n_0_2_1128 x idx (ix3 b p l)
      = x (ix2 (pick 1000 w) l) := by
  rw [pick_eq h]
  unfold Host.gather
  refine congrArg x (funext fun a => Fin.ext ?_)
  match a with
  | ⟨0, _⟩ =>
    show gather_S1000x128_S1024x50x1_S1024x50x128_2_0_n_n_0_2_1128.start (ix3 b p l) idx (0 : Fin 2)
      + gather_S1000x128_S1024x50x1_S1024x50x128_2_0_n_n_0_2_1128.batchCoord (ix3 b p l) (0 : Fin 2)
      + gather_S1000x128_S1024x50x1_S1024x50x128_2_0_n_n_0_2_1128.offCoord (ix3 b p l) (0 : Fin 2) = w.toNat
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S1000x128_S1024x50x1_S1024x50x128_2_0_n_n_0_2_1128.startIndexMap from List.mem_singleton.mpr rfl)]
    have hsi : gather_S1000x128_S1024x50x1_S1024x50x128_2_0_n_n_0_2_1128.siIdx (ix3 b p l)
        ⟨gather_S1000x128_S1024x50x1_S1024x50x128_2_0_n_n_0_2_1128.startIndexMap.idxOf (0 : Fin 2), List.idxOf_lt_length_iff.2 (List.mem_singleton.mpr rfl)⟩ = ix3 b p 0 := by
      funext k
      match k with
      | ⟨0, _⟩ => rfl
      | ⟨1, _⟩ => rfl
      | ⟨2, _⟩ => rfl
    refine (congrArg (fun j => min (idx j).toInt.toNat (1000 - 1)) hsi).trans ?_
    rw [hi]
    exact clamp h (by norm_num)
  | ⟨1, _⟩ =>
    show gather_S1000x128_S1024x50x1_S1024x50x128_2_0_n_n_0_2_1128.start (ix3 b p l) idx (1 : Fin 2)
      + gather_S1000x128_S1024x50x1_S1024x50x128_2_0_n_n_0_2_1128.batchCoord (ix3 b p l) (1 : Fin 2)
      + gather_S1000x128_S1024x50x1_S1024x50x128_2_0_n_n_0_2_1128.offCoord (ix3 b p l) (1 : Fin 2) = l.val
    rw [GatherDims.batchCoord_eq_zero _ _ _ List.not_mem_nil]
    simp only [Nat.add_zero]
    unfold GatherDims.start GatherDims.offCoord
    rw [dif_neg (show (1 : Fin 2) ∉ gather_S1000x128_S1024x50x1_S1024x50x128_2_0_n_n_0_2_1128.startIndexMap by simp [gather_S1000x128_S1024x50x1_S1024x50x128_2_0_n_n_0_2_1128]),
      dif_pos ((GatherDims.mem_sKept _ _).mpr ⟨by simp [gather_S1000x128_S1024x50x1_S1024x50x128_2_0_n_n_0_2_1128], List.not_mem_nil⟩), Nat.zero_add]
    rfl

/-- A row taken along the position axis, the batch axis matched. -/
theorem take_along (x : Vec Ideal S1024x50x128 .f32) (idx : IVec S1024x50x1 32) (w : BitVec 32) (b : Fin 1024) (p : Fin 50)
    (l : Fin 128) (hi : idx (ix3 b p 0) = w) (h : w.toNat < 50) :
    Host.gather gather_S1024x50x128_S1024x50x1_S1024x50x128_2_1_0_0_1_2_11128 x idx (ix3 b p l)
      = x (ix3 b (pick 50 w) l) := by
  rw [pick_eq h]
  unfold Host.gather
  refine congrArg x (funext fun a => Fin.ext ?_)
  match a with
  | ⟨0, _⟩ =>
    show gather_S1024x50x128_S1024x50x1_S1024x50x128_2_1_0_0_1_2_11128.start (ix3 b p l) idx (0 : Fin 3)
      + gather_S1024x50x128_S1024x50x1_S1024x50x128_2_1_0_0_1_2_11128.batchCoord (ix3 b p l) (0 : Fin 3)
      + gather_S1024x50x128_S1024x50x1_S1024x50x128_2_1_0_0_1_2_11128.offCoord (ix3 b p l) (0 : Fin 3) = b.val
    rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 3) ∈ gather_S1024x50x128_S1024x50x1_S1024x50x128_2_1_0_0_1_2_11128.operandBatchingDims from List.mem_singleton.mpr rfl)]
    rfl
  | ⟨1, _⟩ =>
    show gather_S1024x50x128_S1024x50x1_S1024x50x128_2_1_0_0_1_2_11128.start (ix3 b p l) idx (1 : Fin 3)
      + gather_S1024x50x128_S1024x50x1_S1024x50x128_2_1_0_0_1_2_11128.batchCoord (ix3 b p l) (1 : Fin 3)
      + gather_S1024x50x128_S1024x50x1_S1024x50x128_2_1_0_0_1_2_11128.offCoord (ix3 b p l) (1 : Fin 3) = w.toNat
    rw [GatherDims.batchCoord_eq_zero _ _ _ (fun h => by simp [gather_S1024x50x128_S1024x50x1_S1024x50x128_2_1_0_0_1_2_11128] at h),
      GatherDims.offCoord_eq_zero _ _ _ (fun h => ((GatherDims.mem_sKept _ _).mp h).1 (List.mem_singleton.mpr rfl))]
    simp only [Nat.add_zero]
    unfold GatherDims.start
    rw [dif_pos (show (1 : Fin 3) ∈ gather_S1024x50x128_S1024x50x1_S1024x50x128_2_1_0_0_1_2_11128.startIndexMap from List.mem_singleton.mpr rfl)]
    have hsi : gather_S1024x50x128_S1024x50x1_S1024x50x128_2_1_0_0_1_2_11128.siIdx (ix3 b p l)
        ⟨gather_S1024x50x128_S1024x50x1_S1024x50x128_2_1_0_0_1_2_11128.startIndexMap.idxOf (1 : Fin 3), List.idxOf_lt_length_iff.2 (List.mem_singleton.mpr rfl)⟩ = ix3 b p 0 := by
      funext k
      match k with
      | ⟨0, _⟩ => rfl
      | ⟨1, _⟩ => rfl
      | ⟨2, _⟩ => rfl
    refine (congrArg (fun j => min (idx j).toInt.toNat (50 - 1)) hsi).trans ?_
    rw [hi]
    exact clamp h (by norm_num)
  | ⟨2, _⟩ =>
    show gather_S1024x50x128_S1024x50x1_S1024x50x128_2_1_0_0_1_2_11128.start (ix3 b p l) idx (2 : Fin 3)
      + gather_S1024x50x128_S1024x50x1_S1024x50x128_2_1_0_0_1_2_11128.batchCoord (ix3 b p l) (2 : Fin 3)
      + gather_S1024x50x128_S1024x50x1_S1024x50x128_2_1_0_0_1_2_11128.offCoord (ix3 b p l) (2 : Fin 3) = l.val
    rw [GatherDims.batchCoord_eq_zero _ _ _ (fun h => by simp [gather_S1024x50x128_S1024x50x1_S1024x50x128_2_1_0_0_1_2_11128] at h)]
    simp only [Nat.add_zero]
    unfold GatherDims.start GatherDims.offCoord
    rw [dif_neg (show (2 : Fin 3) ∉ gather_S1024x50x128_S1024x50x1_S1024x50x128_2_1_0_0_1_2_11128.startIndexMap by simp [gather_S1024x50x128_S1024x50x1_S1024x50x128_2_1_0_0_1_2_11128]),
      dif_pos ((GatherDims.mem_sKept _ _).mpr ⟨by simp [gather_S1024x50x128_S1024x50x1_S1024x50x128_2_1_0_0_1_2_11128], by simp [gather_S1024x50x128_S1024x50x1_S1024x50x128_2_1_0_0_1_2_11128]⟩), Nat.zero_add]
    rfl

variable (b : Fin 1024) (p : Fin 50) (l : Fin 128)

/-! ## The table of 7 rows -/

theorem wrap0 (x1 : Vec Ideal S1024x50 .i32) (h : (x1 (ix2 b p)).toNat < 7) :
    val_main_call0_v4 (F := Ideal) x1 (ix2 b p) = x1 (ix2 b p) := by
  pointwise [val_main_call0_v4, val_main_call0_v1, val_main_call0_v0, val_main_call0_c, val_main_call0_v3, val_main_call0_v2, val_main_call0_c_0]
  rw [slt_zero (by omega)]
  rfl

theorem inb0 (x1 : Vec Ideal S1024x50 .i32) (h : (x1 (ix2 b p)).toNat < 7) :
    val_main_call0_v12 (F := Ideal) x1 (ix2 b p) = 1#1 := by
  pointwise [val_main_call0_v12, val_main_call0_v11, val_main_call0_v10, val_main_call0_v9, val_main_call0_v8, val_main_call0_v7, val_main_call0_v6, val_main_call0_v5, val_main_call0_c_1, val_main_call0_c_2, val_main_call0_c_3]
  rw [wrap0 b p x1 h, sge_zero (by omega), sle_of (by show _ ≤ 6; omega) (by decide), fold_one]
  rfl

/-- The taken row, its index in range. -/
theorem taken0 (x1 : Vec Ideal S1024x50 .i32) (x9 : Vec Ideal S7x128 .f32) (h : (x1 (ix2 b p)).toNat < 7) :
    val_main_v0 (F := Ideal) x1 x9 (ix3 b p l) = x9 (ix2 (pick 7 (x1 (ix2 b p))) l) := by
  pointwise [val_main_v0, val_main_call0_v14]
  rw [inb0 b p x1 h]
  refine Eq.trans (show _ = val_main_call0_v13 (F := Ideal) x1 x9 (ix3 b p l) from rfl) ?_
  unfold val_main_call0_v13
  refine take_7 _ _ _ b p l ?_ h
  pointwise [val_main_call0_v5]
  exact wrap0 b p x1 h

/-! ## The table of 1000 rows -/

theorem wrap1 (x2 : Vec Ideal S1024x50 .i32) (h : (x2 (ix2 b p)).toNat < 1000) :
    val_main_call1_v4 (F := Ideal) x2 (ix2 b p) = x2 (ix2 b p) := by
  pointwise [val_main_call1_v4, val_main_call1_v1, val_main_call1_v0, val_main_call1_c, val_main_call1_v3, val_main_call1_v2, val_main_call1_c_0]
  rw [slt_zero (by omega)]
  rfl

theorem inb1 (x2 : Vec Ideal S1024x50 .i32) (h : (x2 (ix2 b p)).toNat < 1000) :
    val_main_call1_v12 (F := Ideal) x2 (ix2 b p) = 1#1 := by
  pointwise [val_main_call1_v12, val_main_call1_v11, val_main_call1_v10, val_main_call1_v9, val_main_call1_v8, val_main_call1_v7, val_main_call1_v6, val_main_call1_v5, val_main_call1_c_1, val_main_call1_c_2, val_main_call1_c_3]
  rw [wrap1 b p x2 h, sge_zero (by omega), sle_of (by show _ ≤ 999; omega) (by decide), fold_one]
  rfl

/-- The taken row, its index in range. -/
theorem taken1 (x2 : Vec Ideal S1024x50 .i32) (x10 : Vec Ideal S1000x128 .f32) (h : (x2 (ix2 b p)).toNat < 1000) :
    val_main_v1 (F := Ideal) x2 x10 (ix3 b p l) = x10 (ix2 (pick 1000 (x2 (ix2 b p))) l) := by
  pointwise [val_main_v1, val_main_call1_v14]
  rw [inb1 b p x2 h]
  refine Eq.trans (show _ = val_main_call1_v13 (F := Ideal) x2 x10 (ix3 b p l) from rfl) ?_
  unfold val_main_call1_v13
  refine take_1000 _ _ _ b p l ?_ h
  pointwise [val_main_call1_v5]
  exact wrap1 b p x2 h

/-! ## Dense layers -/

theorem norm2 (x11 : Vec Ideal S128x2 .f32) :
    val_main_call2_v1 (F := Ideal) x11 ix0 = sumSq (fun l k => x11 (ix2 l k)) := by
  pointwise [val_main_call2_v1, val_main_call2_v0, val_main_call2_cst]
  rfl

/-- The normed weight, transposed. -/
theorem weight2 (x11 : Vec Ideal S128x2 .f32) (x12 : Vec Ideal S_ .f32) (k : Fin 2) :
    val_main_v10 (F := Ideal) x11 x12 (ix2 k l) = weight (fun l k => x11 (ix2 l k)) (x12 ix0) l k := by
  pointwise [val_main_v10, val_main_v9, val_main_v8, val_main_v7, val_main_v6, val_main_v5]
  rw [norm2]
  rfl

theorem norm3 (x14 : Vec Ideal S128x256 .f32) :
    val_main_call3_v1 (F := Ideal) x14 ix0 = sumSq (fun l k => x14 (ix2 l k)) := by
  pointwise [val_main_call3_v1, val_main_call3_v0, val_main_call3_cst]
  rfl

/-- The normed weight, transposed. -/
theorem weight3 (x14 : Vec Ideal S128x256 .f32) (x15 : Vec Ideal S_ .f32) (k : Fin 256) :
    val_main_v20 (F := Ideal) x14 x15 (ix2 k l) = weight (fun l k => x14 (ix2 l k)) (x15 ix0) l k := by
  pointwise [val_main_v20, val_main_v19, val_main_v18, val_main_v17, val_main_v16, val_main_v15]
  rw [norm3]
  rfl

theorem norm4 (x17 : Vec Ideal S128x256 .f32) :
    val_main_call4_v1 (F := Ideal) x17 ix0 = sumSq (fun l k => x17 (ix2 l k)) := by
  pointwise [val_main_call4_v1, val_main_call4_v0, val_main_call4_cst]
  rfl

/-- The normed weight, transposed. -/
theorem weight4 (x17 : Vec Ideal S128x256 .f32) (x18 : Vec Ideal S_ .f32) (k : Fin 256) :
    val_main_v30 (F := Ideal) x17 x18 (ix2 k l) = weight (fun l k => x17 (ix2 l k)) (x18 ix0) l k := by
  pointwise [val_main_v30, val_main_v29, val_main_v28, val_main_v27, val_main_v26, val_main_v25]
  rw [norm4]
  rfl

/-- The position layer. -/
theorem dense2 (x3 x4 : Vec Ideal S1024x50 .f32) (x11 : Vec Ideal S128x2 .f32) (x12 : Vec Ideal S_ .f32)
    (x13 : Vec Ideal S128 .f32) :
    val_main_v14 (F := Ideal) x3 x4 x11 x12 x13 (ix3 b p l)
      = dense (fun l k => x11 (ix2 l k)) (x12 ix0) (fun l => x13 (ix1 l)) ![x3 (ix2 b p), x4 (ix2 b p)] l := by
  pointwise [val_main_v14, val_main_v13, val_main_v12, val_main_v11, val_main_v4, val_main_v2, val_main_v3]
  rw [weight2, weight2]
  unfold dense
  rw [Fin.sum_univ_two, Fin.sum_univ_one, Fin.sum_univ_one]
  rfl

/-- A unit layer at one row of features. -/
theorem dense3 (x7 : Vec Ideal S1024x50x256 .f32) (x14 : Vec Ideal S128x256 .f32) (x15 : Vec Ideal S_ .f32)
    (x16 : Vec Ideal S128 .f32) :
    val_main_v24 (F := Ideal) x7 x14 x15 x16 (ix3 b p l)
      = dense (fun l k => x14 (ix2 l k)) (x15 ix0) (fun l => x16 (ix1 l)) (fun k => x7 (ix3 b p k)) l := by
  pointwise [val_main_v24, val_main_v23, val_main_v22, val_main_v21]
  unfold dense
  refine congrArg (· + _) (Finset.sum_congr rfl fun k _ => ?_)
  rw [weight3]

/-- A unit layer at one row of features. -/
theorem dense4 (x8 : Vec Ideal S1024x50x256 .f32) (x17 : Vec Ideal S128x256 .f32) (x18 : Vec Ideal S_ .f32)
    (x19 : Vec Ideal S128 .f32) :
    val_main_v34 (F := Ideal) x8 x17 x18 x19 (ix3 b p l)
      = dense (fun l k => x17 (ix2 l k)) (x18 ix0) (fun l => x19 (ix1 l)) (fun k => x8 (ix3 b p k)) l := by
  pointwise [val_main_v34, val_main_v33, val_main_v32, val_main_v31]
  unfold dense
  refine congrArg (· + _) (Finset.sum_congr rfl fun k _ => ?_)
  rw [weight4]

/-! ## Rows taken along the positions -/

theorem wrap5 (x5 : Vec Ideal S1024x50 .i32) (h : (x5 (ix2 b p)).toNat < 50) :
    val_main_call5_v4 (F := Ideal) x5 (ix3 b p 0) = x5 (ix2 b p) := by
  pointwise [val_main_call5_v4, val_main_call5_v3, val_main_call5_v2, val_main_call5_c_0, val_main_call5_v1, val_main_call5_v0, val_main_call5_c, val_main_v35]
  rw [slt_zero (by omega)]
  rfl

theorem inb5 (x5 : Vec Ideal S1024x50 .i32) (h : (x5 (ix2 b p)).toNat < 50) :
    val_main_call5_v11 (F := Ideal) x5 (ix2 b p) = 1#1 := by
  pointwise [val_main_call5_v11, val_main_call5_v10, val_main_call5_v9, val_main_call5_v8, val_main_call5_v7, val_main_call5_v6, val_main_call5_v5, val_main_call5_c_1, val_main_call5_c_2, val_main_call5_c_3]
  rw [fold_one, wrap5 b p x5 h, sge_zero (by omega), sle_of (by show _ ≤ 49; omega) (by decide)]
  rfl

/-- The layer's output at the position the index names. -/
theorem taken5 (x5 : Vec Ideal S1024x50 .i32) (x7 : Vec Ideal S1024x50x256 .f32) (x14 : Vec Ideal S128x256 .f32)
    (x15 : Vec Ideal S_ .f32) (x16 : Vec Ideal S128 .f32) (h : (x5 (ix2 b p)).toNat < 50) :
    val_main_v36 (F := Ideal) x5 x7 x14 x15 x16 (ix3 b p l)
      = dense (fun l k => x14 (ix2 l k)) (x15 ix0) (fun l => x16 (ix1 l)) (fun k => x7 (ix3 b (pick 50 (x5 (ix2 b p))) k)) l := by
  pointwise [val_main_v36, val_main_call5_v13]
  rw [inb5 b p x5 h]
  refine Eq.trans (show _ = val_main_call5_v12 (F := Ideal) x5 x7 x14 x15 x16 (ix3 b p l) from rfl) ?_
  unfold val_main_call5_v12
  rw [take_along _ _ _ b p l (wrap5 b p x5 h) h, dense3]

theorem wrap6 (x6 : Vec Ideal S1024x50 .i32) (h : (x6 (ix2 b p)).toNat < 50) :
    val_main_call6_v4 (F := Ideal) x6 (ix3 b p 0) = x6 (ix2 b p) := by
  pointwise [val_main_call6_v4, val_main_call6_v3, val_main_call6_v2, val_main_call6_c_0, val_main_call6_v1, val_main_call6_v0, val_main_call6_c, val_main_v37]
  rw [slt_zero (by omega)]
  rfl

theorem inb6 (x6 : Vec Ideal S1024x50 .i32) (h : (x6 (ix2 b p)).toNat < 50) :
    val_main_call6_v11 (F := Ideal) x6 (ix2 b p) = 1#1 := by
  pointwise [val_main_call6_v11, val_main_call6_v10, val_main_call6_v9, val_main_call6_v8, val_main_call6_v7, val_main_call6_v6, val_main_call6_v5, val_main_call6_c_1, val_main_call6_c_2, val_main_call6_c_3]
  rw [fold_one, wrap6 b p x6 h, sge_zero (by omega), sle_of (by show _ ≤ 49; omega) (by decide)]
  rfl

/-- The layer's output at the position the index names. -/
theorem taken6 (x6 : Vec Ideal S1024x50 .i32) (x8 : Vec Ideal S1024x50x256 .f32) (x17 : Vec Ideal S128x256 .f32)
    (x18 : Vec Ideal S_ .f32) (x19 : Vec Ideal S128 .f32) (h : (x6 (ix2 b p)).toNat < 50) :
    val_main_v38 (F := Ideal) x6 x8 x17 x18 x19 (ix3 b p l)
      = dense (fun l k => x17 (ix2 l k)) (x18 ix0) (fun l => x19 (ix1 l)) (fun k => x8 (ix3 b (pick 50 (x6 (ix2 b p))) k)) l := by
  pointwise [val_main_v38, val_main_call6_v13]
  rw [inb6 b p x6 h]
  refine Eq.trans (show _ = val_main_call6_v12 (F := Ideal) x6 x8 x17 x18 x19 (ix3 b p l) from rfl) ?_
  unfold val_main_call6_v12
  rw [take_along _ _ _ b p l (wrap6 b p x6 h) h, dense4]

/-! ## Masks -/

theorem uitofp_eq (a w : BitVec 32) : (FloatOps.uitofp .f32 (IntOp.cmpi .eq a w) : Ideal .f32) = ind (a = w) := by
  rw [WordCmp.cmpi_eq_eq]
  show ((((BitVec.ofBool (decide (a = w))).toNat : ℕ) : ℝ) : EReal) = _
  by_cases h : a = w
  · rw [ind_true h, decide_eq_true h]; simp
  · rw [ind_false h, decide_eq_false h]; simp

/-- Two masks of different words add up to the mask of either. -/
theorem ind_add (a w v : BitVec 32) (h : w ≠ v) : ind (a = w) + ind (a = v) = ind (a = w ∨ a = v) := by
  by_cases h1 : a = w
  · rw [ind_true h1, ind_true (Or.inl h1), ind_false (fun h2 => h (h1.symm.trans h2)), add_zero]
  · rw [ind_false h1, zero_add]
    by_cases h2 : a = v
    · rw [ind_true h2, ind_true (Or.inr h2)]
    · rw [ind_false h2, ind_false (by tauto)]

theorem maskTgt (x1 : Vec Ideal S1024x50 .i32) :
    val_main_v55 (F := Ideal) x1 (ix3 b p l) = ind (x1 (ix2 b p) = 3#32 ∨ x1 (ix2 b p) = 4#32) := by
  pointwise [val_main_v55, val_main_v54, val_main_v44, val_main_v43, val_main_v42, val_main_v41, val_main_v40, val_main_v39, val_main_call7_v4, val_main_call7_v3, val_main_call7_v2, val_main_call7_v1, val_main_call7_v0]
  rw [uitofp_eq, uitofp_eq]
  exact ind_add _ _ _ (by decide)

theorem maskXy (x1 : Vec Ideal S1024x50 .i32) :
    val_main_v58 (F := Ideal) x1 (ix3 b p l) = ind (x1 (ix2 b p) = 3#32 ∨ x1 (ix2 b p) = 5#32) := by
  pointwise [val_main_v58, val_main_v57, val_main_v49, val_main_v48, val_main_v47, val_main_v46, val_main_v45, val_main_v39, val_main_call7_v4, val_main_call7_v3, val_main_call7_v2, val_main_call7_v1, val_main_call7_v0]
  rw [uitofp_eq, uitofp_eq]
  exact ind_add _ _ _ (by decide)

theorem maskAttack (x1 : Vec Ideal S1024x50 .i32) :
    val_main_v61 (F := Ideal) x1 (ix3 b p l) = ind (x1 (ix2 b p) = 2#32) := by
  pointwise [val_main_v61, val_main_v60, val_main_v51, val_main_v50, val_main_v39, val_main_call7_v4, val_main_call7_v3, val_main_call7_v2, val_main_call7_v1, val_main_call7_v0]
  exact uitofp_eq _ _

theorem maskGather (x1 : Vec Ideal S1024x50 .i32) :
    val_main_v64 (F := Ideal) x1 (ix3 b p l) = ind (x1 (ix2 b p) = 1#32) := by
  pointwise [val_main_v64, val_main_v63, val_main_v53, val_main_v52, val_main_v39, val_main_call7_v4, val_main_call7_v3, val_main_call7_v2, val_main_call7_v1, val_main_call7_v0]
  exact uitofp_eq _ _

/-! ## The result array -/

/-- The argument arrays at coordinates. -/
def argsOf
    (x1 : Vec Ideal S1024x50 .i32) (x2 : Vec Ideal S1024x50 .i32) (x3 : Vec Ideal S1024x50 .f32)
    (x4 : Vec Ideal S1024x50 .f32) (x5 : Vec Ideal S1024x50 .i32) (x6 : Vec Ideal S1024x50 .i32)
    (x7 : Vec Ideal S1024x50x256 .f32) (x8 : Vec Ideal S1024x50x256 .f32) (x9 : Vec Ideal S7x128 .f32)
    (x10 : Vec Ideal S1000x128 .f32) (x11 : Vec Ideal S128x2 .f32) (x12 : Vec Ideal S_ .f32)
    (x13 : Vec Ideal S128 .f32) (x14 : Vec Ideal S128x256 .f32) (x15 : Vec Ideal S_ .f32) (x16 : Vec Ideal S128 .f32)
    (x17 : Vec Ideal S128x256 .f32) (x18 : Vec Ideal S_ .f32) (x19 : Vec Ideal S128 .f32) : Args where
  cmd b p := x1 (ix2 b p)
  tgt b p := x2 (ix2 b p)
  x b p := x3 (ix2 b p)
  y b p := x4 (ix2 b p)
  attack b p := x5 (ix2 b p)
  gather b p := x6 (ix2 b p)
  ef b p k := x7 (ix3 b p k)
  rf b p k := x8 (ix3 b p k)
  cemb i l := x9 (ix2 i l)
  temb i l := x10 (ix2 i l)
  vxy l k := x11 (ix2 l k)
  gxy := x12 ix0
  bxy l := x13 (ix1 l)
  ve l k := x14 (ix2 l k)
  ge := x15 ix0
  be l := x16 (ix1 l)
  vr l k := x17 (ix2 l k)
  gr := x18 ix0
  br l := x19 (ix1 l)

/-- The reference's result array, its indices in range, is the four pieces side by side. -/
theorem result_eq
    (x1 : Vec Ideal S1024x50 .i32) (x2 : Vec Ideal S1024x50 .i32) (x3 : Vec Ideal S1024x50 .f32)
    (x4 : Vec Ideal S1024x50 .f32) (x5 : Vec Ideal S1024x50 .i32) (x6 : Vec Ideal S1024x50 .i32)
    (x7 : Vec Ideal S1024x50x256 .f32) (x8 : Vec Ideal S1024x50x256 .f32) (x9 : Vec Ideal S7x128 .f32)
    (x10 : Vec Ideal S1000x128 .f32) (x11 : Vec Ideal S128x2 .f32) (x12 : Vec Ideal S_ .f32)
    (x13 : Vec Ideal S128 .f32) (x14 : Vec Ideal S128x256 .f32) (x15 : Vec Ideal S_ .f32) (x16 : Vec Ideal S128 .f32)
    (x17 : Vec Ideal S128x256 .f32) (x18 : Vec Ideal S_ .f32) (x19 : Vec Ideal S128 .f32)
    (hA : (argsOf x1 x2 x3 x4 x5 x6 x7 x8 x9 x10 x11 x12 x13 x14 x15 x16 x17 x18 x19).Ok) :
    val_main_v67 (F := Ideal) x1 x2 x3 x4 x5 x6 x7 x8 x9 x10 x11 x12 x13 x14 x15 x16 x17 x18 x19
      = fun i => result (argsOf x1 x2 x3 x4 x5 x6 x7 x8 x9 x10 x11 x12 x13 x14 x15 x16 x17 x18 x19) (i 0) (i 1) (i 2) := by
  funext i
  obtain ⟨b, p, c, rfl⟩ : ∃ (b : Fin 1024) (p : Fin 50) (c : Fin 512), i = ix3 b p c := ⟨i 0, i 1, i 2, eq_ix3 i⟩
  show _ = result _ b p c
  have h1 := hA.cmd b p
  have h2 := hA.tgt b p
  have h5 := hA.attack b p
  have h6 := hA.gather b p
  have hc := c.isLt
  pointwise [val_main_v67]
  split
  · rename_i h
    rw [result_cmd _ b p ⟨c.val, h⟩ c rfl, taken0 _ _ _ _ _ h1]
    rfl
  split
  · rename_i h h'
    rw [result_tgt _ b p ⟨c.val - 128, h'⟩ c (by show c.val = 128 + (c.val - 128); omega)]
    pointwise [val_main_v56]
    rw [maskTgt, taken1 _ _ _ _ _ h2]
    rfl
  split
  · rename_i h h' h''
    rw [result_xy _ b p ⟨c.val - 128 - 128, h''⟩ c (by show c.val = 256 + (c.val - 128 - 128); omega)]
    pointwise [val_main_v59]
    rw [maskXy, dense2]
    rfl
  · rename_i h h' h''
    rw [result_unit _ b p ⟨c.val - 128 - 128 - 128, by omega⟩ c (by show c.val = 384 + (c.val - 128 - 128 - 128); omega)]
    pointwise [val_main_v66, val_main_v65, val_main_v62]
    rw [maskAttack, maskGather, taken5 _ _ _ _ _ _ _ _ h5, taken6 _ _ _ _ _ _ _ _ h6]
    rfl

end Cert.ReferenceIdeal.RValue
end
-- ==== Proof.Pre.lean ====
/-
  What the precondition says of the argument arrays at coordinates.
-/
module

public import proofs.«01_k».proof.Defs
public import proofs.«01_k».proof.Proof.Gen.Pre_inputs_ok
public import proofs.«01_k».proof.Proof.KernelValue
public import Idealize.ShloMosaic.Lib.Tactic.WordOmega
public import Idealize.ShloMosaic.Lib.WordCmp

@[expose] public section

set_option maxRecDepth 16384

noncomputable section

namespace Cert.Pre_inputs_ok.Coords

open Cert.Pre_inputs_ok Cert.Pre_inputs_ok.Gen Cert.ActionEmb Idealize.ShloMosaic Idealize.ShloMosaic.Tactic

/-- A word between zero and a small bound, by the two signed tests. -/
theorem lt_of_tests {w n : BitVec 32} (hn : n.toNat < 2 ^ 31)
    (h : IntOp.andi (IntOp.cmpi .sge w 0#32) (IntOp.cmpi .slt w n) = 1#1) : w.toNat < n.toNat := by
  word_omega

/-- A value whose magnitude is below infinity is finite. -/
theorem finite_of_test {a : EReal} (h : BitVec.ofBool (decide ((FloatOps.absf a : Ideal .f32) < Ideal.ofBits .f32 0x7F800000#32)) = 1#1) :
    Fin' a := by
  rw [WordCmp.ofBool_decide_eq_one_iff] at h
  have ht : Ideal.ofBits .f32 0x7F800000#32 = ⊤ := by simp [Ideal.ofBits, Ideal.ieee]
  rw [ht] at h
  have h' : max a (-a) < ⊤ := h
  rw [max_lt_iff] at h'
  refine ⟨ne_of_lt h'.1, ?_⟩
  rintro rfl
  exact absurd h'.2 (by simp)

variable (x0 : IVec S1024 32) (x1 : IVec S1024x50 32) (x2 : IVec S1024x50 32) (x3 : FVec Ideal S1024x50 .f32)
    (x4 : FVec Ideal S1024x50 .f32) (x5 : IVec S1024x50 32) (x6 : IVec S1024x50 32)
    (x7 : FVec Ideal S1024x50x256 .f32) (x8 : FVec Ideal S1024x50x256 .f32) (x9 : FVec Ideal S7x128 .f32)
    (x10 : FVec Ideal S1000x128 .f32) (x11 : FVec Ideal S128x2 .f32) (x12 : FVec Ideal S_ .f32)
    (x13 : FVec Ideal S128 .f32) (x14 : FVec Ideal S128x256 .f32) (x15 : FVec Ideal S_ .f32)
    (x16 : FVec Ideal S128 .f32) (x17 : FVec Ideal S128x256 .f32) (x18 : FVec Ideal S_ .f32)
    (x19 : FVec Ideal S128 .f32)

theorem cmd (h : (fn (F := Ideal) x0 x1 x2 x3 x4 x5 x6 x7 x8 x9 x10 x11 x12 x13 x14 x15 x16 x17 x18 x19).1 = fun _ => 1#1)
    (b : Fin 1024) (p : Fin 50) : (x1 (ix2 b p)).toNat < 7 := by
  have h' := congrFun h (ix2 b p)
  unfold fn fn_part1 fn_part2 at h'
  pointwise [] at h'
  exact lt_of_tests (n := 7#32) (by decide) h'

theorem tgt (h : (fn (F := Ideal) x0 x1 x2 x3 x4 x5 x6 x7 x8 x9 x10 x11 x12 x13 x14 x15 x16 x17 x18 x19).2.1 = fun _ => 1#1)
    (b : Fin 1024) (p : Fin 50) : (x2 (ix2 b p)).toNat < 1000 := by
  have h' := congrFun h (ix2 b p)
  unfold fn fn_part1 fn_part2 at h'
  pointwise [] at h'
  exact lt_of_tests (n := 1000#32) (by decide) h'

theorem attack (h : (fn (F := Ideal) x0 x1 x2 x3 x4 x5 x6 x7 x8 x9 x10 x11 x12 x13 x14 x15 x16 x17 x18 x19).2.2.1 = fun _ => 1#1)
    (b : Fin 1024) (p : Fin 50) : (x5 (ix2 b p)).toNat < 50 := by
  have h' := congrFun h (ix2 b p)
  unfold fn fn_part1 fn_part2 at h'
  pointwise [] at h'
  exact lt_of_tests (n := 50#32) (by decide) h'

theorem gather (h : (fn (F := Ideal) x0 x1 x2 x3 x4 x5 x6 x7 x8 x9 x10 x11 x12 x13 x14 x15 x16 x17 x18 x19).2.2.2.1 = fun _ => 1#1)
    (b : Fin 1024) (p : Fin 50) : (x6 (ix2 b p)).toNat < 50 := by
  have h' := congrFun h (ix2 b p)
  unfold fn fn_part1 fn_part2 at h'
  pointwise [] at h'
  exact lt_of_tests (n := 50#32) (by decide) h'

theorem ef (h : (fn (F := Ideal) x0 x1 x2 x3 x4 x5 x6 x7 x8 x9 x10 x11 x12 x13 x14 x15 x16 x17 x18 x19).2.2.2.2.1 = fun _ => 1#1)
    (b : Fin 1024) (p : Fin 50) (k : Fin 256) : Fin' (x7 (ix3 b p k)) := by
  have h' := congrFun h (ix3 b p k)
  unfold fn fn_part1 fn_part2 at h'
  pointwise [] at h'
  exact finite_of_test h'

theorem rf (h : (fn (F := Ideal) x0 x1 x2 x3 x4 x5 x6 x7 x8 x9 x10 x11 x12 x13 x14 x15 x16 x17 x18 x19).2.2.2.2.2.1 = fun _ => 1#1)
    (b : Fin 1024) (p : Fin 50) (k : Fin 256) : Fin' (x8 (ix3 b p k)) := by
  have h' := congrFun h (ix3 b p k)
  unfold fn fn_part1 fn_part2 at h'
  pointwise [] at h'
  exact finite_of_test h'

theorem ge (h : (fn (F := Ideal) x0 x1 x2 x3 x4 x5 x6 x7 x8 x9 x10 x11 x12 x13 x14 x15 x16 x17 x18 x19).2.2.2.2.2.2.1 = fun _ => 1#1) :
    Fin' (x15 ix0) := by
  have h' := congrFun h ix0
  unfold fn fn_part1 fn_part2 at h'
  pointwise [] at h'
  exact finite_of_test h'

theorem gr (h : (fn (F := Ideal) x0 x1 x2 x3 x4 x5 x6 x7 x8 x9 x10 x11 x12 x13 x14 x15 x16 x17 x18 x19).2.2.2.2.2.2.2.1 = fun _ => 1#1) :
    Fin' (x18 ix0) := by
  have h' := congrFun h ix0
  unfold fn fn_part1 fn_part2 at h'
  pointwise [] at h'
  exact finite_of_test h'

theorem vxy (h : (fn (F := Ideal) x0 x1 x2 x3 x4 x5 x6 x7 x8 x9 x10 x11 x12 x13 x14 x15 x16 x17 x18 x19).2.2.2.2.2.2.2.2.1 = fun _ => 1#1) :
    0 < sumSq (fun l k => x11 (ix2 l k)) := by
  have h' := congrFun h ix0
  unfold fn fn_part1 fn_part2 at h'
  pointwise [] at h'
  exact (WordCmp.ofBool_decide_eq_one_iff _).mp h'

theorem ve (h : (fn (F := Ideal) x0 x1 x2 x3 x4 x5 x6 x7 x8 x9 x10 x11 x12 x13 x14 x15 x16 x17 x18 x19).2.2.2.2.2.2.2.2.2.1 = fun _ => 1#1) :
    0 < sumSq (fun l k => x14 (ix2 l k)) := by
  have h' := congrFun h ix0
  unfold fn fn_part1 fn_part2 at h'
  pointwise [] at h'
  exact (WordCmp.ofBool_decide_eq_one_iff _).mp h'

theorem vr (h : (fn (F := Ideal) x0 x1 x2 x3 x4 x5 x6 x7 x8 x9 x10 x11 x12 x13 x14 x15 x16 x17 x18 x19).2.2.2.2.2.2.2.2.2.2 = fun _ => 1#1) :
    0 < sumSq (fun l k => x17 (ix2 l k)) := by
  have h' := congrFun h ix0
  unfold fn fn_part1 fn_part2 at h'
  pointwise [] at h'
  exact (WordCmp.ofBool_decide_eq_one_iff _).mp h'

/-- Under the precondition, the kernel's arguments are as the proof of its value assumes. -/
theorem ok [Cert.KernelIdeal.Facts] (m : (ℓ : Loc Cert.KernelIdeal.nD Cert.KernelIdeal.τ Cert.KernelIdeal.sig) → Buf (Elt Ideal) ℓ)
    (h : Cert.Pre_KernelIdeal_inputs_ok m) (c : Dev Cert.KernelIdeal.nD) : (Cert.KernelIdeal.KValue.args m c).Ok := by
  obtain ⟨h0, h1, h2, h3, h4, h5, h6, h7, h8, h9, h10⟩ := h c
  exact {
    cmd := cmd _ _ _ _ _ _ _ _ _ _ _ _ _ _ _ _ _ _ _ _ h0
    tgt := tgt _ _ _ _ _ _ _ _ _ _ _ _ _ _ _ _ _ _ _ _ h1
    attack := attack _ _ _ _ _ _ _ _ _ _ _ _ _ _ _ _ _ _ _ _ h2
    gather := gather _ _ _ _ _ _ _ _ _ _ _ _ _ _ _ _ _ _ _ _ h3
    ef := ef _ _ _ _ _ _ _ _ _ _ _ _ _ _ _ _ _ _ _ _ h4
    rf := rf _ _ _ _ _ _ _ _ _ _ _ _ _ _ _ _ _ _ _ _ h5
    ge := ge _ _ _ _ _ _ _ _ _ _ _ _ _ _ _ _ _ _ _ _ h6
    gr := gr _ _ _ _ _ _ _ _ _ _ _ _ _ _ _ _ _ _ _ _ h7
    vxy := vxy _ _ _ _ _ _ _ _ _ _ _ _ _ _ _ _ _ _ _ _ h8
    ve := ve _ _ _ _ _ _ _ _ _ _ _ _ _ _ _ _ _ _ _ _ h9
    vr := vr _ _ _ _ _ _ _ _ _ _ _ _ _ _ _ _ _ _ _ _ h10 }

end Cert.Pre_inputs_ok.Coords
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_inputs_ok
public import proofs.«01_k».proof.Proof.KernelValue
public import proofs.«01_k».proof.Proof.RefValue
public import proofs.«01_k».proof.Proof.Pre
public import Idealize.ShloMosaic.Adequacy
public import Idealize.ShloMosaic.Init

@[expose] public section

noncomputable section

namespace Cert.Proof

open Idealize.ShloMosaic Idealize.SL.Sem Cert.Kernel

/-- The ideal kernel's frame. -/
theorem frame_KI : Cert.quiescent_KernelIdeal := fun m ρ _ => Cert.KernelIdeal.Gen.frame m ρ

/-- The reference leaves its arguments as they were; it has no semaphore. -/
theorem frame_RI : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- Kernel and reference end with the same array, the four pieces side by side. -/
theorem algebraic : Cert.algebraic_KernelIdeal_ReferenceIdeal_pre_inputs_ok := by
  intro m ρ m' ρ' hpre hagree
  have hA : ∀ c, (Cert.KernelIdeal.KValue.args m c).Ok := Cert.Pre_inputs_ok.Coords.ok m hpre
  refine ⟨fun c => Cert.KernelIdeal.KValue.G26 (Cert.KernelIdeal.KValue.args m c), Cert.KernelIdeal.KValue.run m ρ hA, ?_⟩
  refine (θ_run Cert.ReferenceIdeal.defs _ _).mono (fun r h c => ⟨(h c).1.trans ?_, (h c).2⟩)
    (Cert.ReferenceIdeal.Value.run (F := Ideal) m' ρ')
  rw [Cert.ReferenceIdeal.Read.val_main_v67_eq]
  obtain ⟨e0, e1, e2, e3, e4, e5, e6, e7, e8, e9, e10, e11, e12, e13, e14, e15, e16, e17, e18, e19⟩ := hagree c
  rw [e1, e2, e3, e4, e5, e6, e7, e8, e9, e10, e11, e12, e13, e14, e15, e16, e17, e18, e19]
  exact Cert.ReferenceIdeal.RValue.result_eq _ _ _ _ _ _ _ _ _ _ _ _ _ _ _ _ _ _ _ (hA c)

/-- Every claim of the statement. -/
theorem claim : Cert.Claim := ⟨Cert.Kernel.Gen.facts, Cert.KernelIdeal.Gen.facts, Cert.ReferenceIdeal.Gen.facts, Cert.Pre_inputs_ok.Gen.facts,
  fun m ρ _ => Cert.Kernel.Gen.frame m ρ, frame_KI, fun m ρ _ => frame_KI m ρ trivial, frame_RI, fun m ρ _ => frame_RI m ρ trivial,
  trivial, algebraic⟩

end Cert.Proof

end
